-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x384x2816 : Shape := ⟨3, ![4, 384, 2816]⟩
abbrev S2816x4096 : Shape := ⟨2, ![2816, 4096]⟩
abbrev S88x4096 : Shape := ⟨2, ![88, 4096]⟩
abbrev S_ : Shape := ⟨0, ![]⟩

class Facts : Prop where
  bcast_S_S4x384x2816 : S_.BroadcastsInDim S4x384x2816 (![] : Fin 0 → Fin S4x384x2816.rank)
  reducesTo_S4x384x2816_S_d0_1_2 : S4x384x2816.ReducesTo [0, 1, 2] S_
  h_S_ : 0 < S_.numel

variable [Facts]

def fn {F : FTy → Type} [FloatOps F] (main_arg0 : FVec F S4x384x2816 .bf16) (main_arg1 : FVec F S2816x4096 .fp8e4m3) (main_arg2 : IVec S88x4096 8) : IVec S_ 1 :=
  let main_v0 : FVec F S4x384x2816 .bf16 := Host.absf main_arg0
  let main_cst : FVec F S_ .bf16 := constant S_ .bf16 0x7F7F#16
  let main_v1 : FVec F S4x384x2816 .bf16 := broadcastInDim S4x384x2816 ![] bcast_S_S4x384x2816 main_cst
  let main_v2 : IVec S4x384x2816 1 := cmpf .ole main_v0 main_v1
  let main_c : IVec S_ 1 := constantI S_ 1 1#1
  let main_v3 : IVec S_ 1 := (fun x v => Host.reduce IntOp.andi x v reducesTo_S4x384x2816_S_d0_1_2 h_S_) main_v2 main_c
  main_v3
-- ==== Kernel.lean ====
abbrev S4x384x2816 : Shape := ⟨3, ![4, 384, 2816]⟩
abbrev S2816x4096 : Shape := ⟨2, ![2816, 4096]⟩
abbrev S88x4096 : Shape := ⟨2, ![88, 4096]⟩
abbrev S1536x2816 : Shape := ⟨2, ![1536, 2816]⟩
abbrev S1536x4096 : Shape := ⟨2, ![1536, 4096]⟩
abbrev S12x1x128 : Shape := ⟨3, ![12, 1, 128]⟩
abbrev S2816x512 : Shape := ⟨2, ![2816, 512]⟩
abbrev S88x512 : Shape := ⟨2, ![88, 512]⟩
abbrev S1536x512 : Shape := ⟨2, ![1536, 512]⟩
abbrev S1536x128 : Shape := ⟨2, ![1536, 128]⟩
abbrev S128x2816 : Shape := ⟨2, ![128, 2816]⟩
abbrev S128 : Shape := ⟨1, ![128]⟩
abbrev S128x1 : Shape := ⟨2, ![128, 1]⟩
abbrev S128x128 : Shape := ⟨2, ![128, 128]⟩
abbrev S1x128 : Shape := ⟨2, ![1, 128]⟩
abbrev S1x1x128 : Shape := ⟨3, ![1, 1, 128]⟩
abbrev S1x512 : Shape := ⟨2, ![1, 512]⟩
abbrev S32x512 : Shape := ⟨2, ![32, 512]⟩
abbrev S1536x1 : Shape := ⟨2, ![1536, 1]⟩

abbrev nBuf : Space → Nat
  | .hbm => 7
  | .vmem => 12
  | .smem => 0
  | _ => 0

abbrev bufTy : (tb : Table) → Fin (tcTables nBuf tb) → BufTy
  | .hbm, ⟨0, _⟩ => ⟨S4x384x2816, .bf16⟩
  | .hbm, ⟨1, _⟩ => ⟨S2816x4096, .fp8e4m3⟩
  | .hbm, ⟨2, _⟩ => ⟨S88x4096, .i8⟩
  | .hbm, ⟨3, _⟩ => ⟨S1536x2816, .bf16⟩
  | .hbm, ⟨4, _⟩ => ⟨S1536x4096, .bf16⟩
  | .hbm, ⟨5, _⟩ => ⟨S1536x2816, .fp8e4m3⟩
  | .hbm, ⟨6, _⟩ => ⟨S12x1x128, .f32⟩
  | .local _ .vmem, ⟨0, _⟩ => ⟨S1536x2816, .bf16⟩
  | .local _ .vmem, ⟨1, _⟩ => ⟨S2816x512, .fp8e4m3⟩
  | .local _ .vmem, ⟨2, _⟩ => ⟨S2816x512, .fp8e4m3⟩
  | .local _ .vmem, ⟨3, _⟩ => ⟨S88x512, .i8⟩
  | .local _ .vmem, ⟨4, _⟩ => ⟨S88x512, .i8⟩
  | .local _ .vmem, ⟨5, _⟩ => ⟨S1536x512, .bf16⟩
  | .local _ .vmem, ⟨6, _⟩ => ⟨S1536x512, .bf16⟩
  | .local _ .vmem, ⟨7, _⟩ => ⟨S1536x2816, .fp8e4m3⟩
  | .local _ .vmem, ⟨8, _⟩ => ⟨S12x1x128, .f32⟩
  | .local _ .vmem, ⟨9, _⟩ => ⟨S1536x2816, .bf16⟩
  | .local _ .vmem, ⟨10, _⟩ => ⟨S2816x512, .bf16⟩
  | .local _ .vmem, ⟨11, _⟩ => ⟨S1536x128, .f32⟩
  | _, _ => ⟨S4x384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_361 : BitVec 32 := 0#32
  let c12_i32 : BitVec 32 := 12#32
  let v1419 : BitVec 32 := Scalar.addi c0_i32_361 c12_i32
  let c1_i32 : BitVec 32 := 1#32
  ⟨c0_i32_361, v1419, c1_i32⟩
def k0_mult1 (k0_t1 : Fin k0_t1_loop.trips) : BitVec 32 :=
  let c0_i32_361 : BitVec 32 := 0#32
  let c1_i32 : BitVec 32 := 1#32
  let arg10 : BitVec 32 := Scf.iv c0_i32_361 c1_i32 k0_t1
  let c128_i32_363 : BitVec 32 := 128#32
  let v1420 : BitVec 32 := Scalar.muli arg10 c128_i32_363
  v1420
def k0_off1 (k0_t1 : Fin k0_t1_loop.trips) : Fin 2 → Nat :=
  let c0_i32_361 : BitVec 32 := 0#32
  let c1_i32 : BitVec 32 := 1#32
  let arg10 : BitVec 32 := Scf.iv c0_i32_361 c1_i32 k0_t1
  let c128_i32_363 : BitVec 32 := 128#32
  let v1420 : BitVec 32 := Scalar.muli arg10 c128_i32_363
  let v1421 : BitVec 32 := v1420
  let v1422 : Index := Scalar.indexCast v1421
  let c0_364 : Index := 0#32
  ![v1422.toNat, 0]
def k0_off2 (k0_t1 : Fin k0_t1_loop.trips) : Fin 2 → Nat :=
  let c0_i32_361 : BitVec 32 := 0#32
  let c1_i32 : BitVec 32 := 1#32
  let arg10 : BitVec 32 := Scf.iv c0_i32_361 c1_i32 k0_t1
  let c128_i32_363 : BitVec 32 := 128#32
  let v1420 : BitVec 32 := Scalar.muli arg10 c128_i32_363
  let v1421 : BitVec 32 := v1420
  let v1526 : Index := Scalar.indexCast v1421
  let c0_389 : Index := 0#32
  ![v1526.toNat, 0]
def k0_off3 (k0_t1 : Fin k0_t1_loop.trips) : Fin 3 → Nat :=
  let c0_i32_361 : BitVec 32 := 0#32
  let c1_i32 : BitVec 32 := 1#32
  let arg10 : BitVec 32 := Scf.iv c0_i32_361 c1_i32 k0_t1
  let v1537 : Index := Scalar.indexCast arg10
  let c0_392 : Index := 0#32
  let c0_393 : Index := 0#32
  ![v1537.toNat, 0, 0]
def k0_mult2 : BitVec 32 :=
  let c0_i32_1 : BitVec 32 := 0#32
  c0_i32_1
def k0_mult3 : BitVec 32 :=
  let c32_i32 : BitVec 32 := 32#32
  c32_i32
def k0_mult4 : BitVec 32 :=
  let c64_i32 : BitVec 32 := 64#32
  c64_i32
def k0_mult5 : BitVec 32 :=
  let c96_i32 : BitVec 32 := 96#32
  c96_i32
def k0_mult6 : BitVec 32 :=
  let c128_i32 : BitVec 32 := 128#32
  c128_i32
def k0_mult7 : BitVec 32 :=
  let c160_i32 : BitVec 32 := 160#32
  c160_i32
def k0_mult8 : BitVec 32 :=
  let c192_i32 : BitVec 32 := 192#32
  c192_i32
def k0_mult9 : BitVec 32 :=
  let c224_i32 : BitVec 32 := 224#32
  c224_i32
def k0_mult10 : BitVec 32 :=
  let c256_i32 : BitVec 32 := 256#32
  c256_i32
def k0_mult11 : BitVec 32 :=
  let c288_i32 : BitVec 32 := 288#32
  c288_i32
def k0_mult12 : BitVec 32 :=
  let c320_i32 : BitVec 32 := 320#32
  c320_i32
def k0_mult13 : BitVec 32 :=
  let c352_i32 : BitVec 32 := 352#32
  c352_i32
def k0_mult14 : BitVec 32 :=
  let c384_i32 : BitVec 32 := 384#32
  c384_i32
def k0_mult15 : BitVec 32 :=
  let c416_i32 : BitVec 32 := 416#32
  c416_i32
def k0_mult16 : BitVec 32 :=
  let c448_i32 : BitVec 32 := 448#32
  c448_i32
def k0_mult17 : BitVec 32 :=
  let c480_i32 : BitVec 32 := 480#32
  c480_i32
def k0_mult18 : BitVec 32 :=
  let c512_i32 : BitVec 32 := 512#32
  c512_i32
def k0_mult19 : BitVec 32 :=
  let c544_i32 : BitVec 32 := 544#32
  c544_i32
def k0_mult20 : BitVec 32 :=
  let c576_i32 : BitVec 32 := 576#32
  c576_i32
def k0_mult21 : BitVec 32 :=
  let c608_i32 : BitVec 32 := 608#32
  c608_i32
def k0_mult22 : BitVec 32 :=
  let c640_i32 : BitVec 32 := 640#32
  c640_i32
def k0_mult23 : BitVec 32 :=
  let c672_i32 : BitVec 32 := 672#32
  c672_i32
def k0_mult24 : BitVec 32 :=
  let c704_i32 : BitVec 32 := 704#32
  c704_i32
def k0_mult25 : BitVec 32 :=
  let c736_i32 : BitVec 32 := 736#32
  c736_i32
def k0_mult26 : BitVec 32 :=
  let c768_i32 : BitVec 32 := 768#32
  c768_i32
def k0_mult27 : BitVec 32 :=
  let c800_i32 : BitVec 32 := 800#32
  c800_i32
def k0_mult28 : BitVec 32 :=
  let c832_i32 : BitVec 32 := 832#32
  c832_i32
def k0_mult29 : BitVec 32 :=
  let c864_i32 : BitVec 32 := 864#32
  c864_i32
def k0_mult30 : BitVec 32 :=
  let c896_i32 : BitVec 32 := 896#32
  c896_i32
def k0_mult31 : BitVec 32 :=
  let c928_i32 : BitVec 32 := 928#32
  c928_i32
def k0_mult32 : BitVec 32 :=
  let c960_i32 : BitVec 32 := 960#32
  c960_i32
def k0_mult33 : BitVec 32 :=
  let c992_i32 : BitVec 32 := 992#32
  c992_i32
def k0_mult34 : BitVec 32 :=
  let c1024_i32 : BitVec 32 := 1024#32
  c1024_i32
def k0_mult35 : BitVec 32 :=
  let c1056_i32 : BitVec 32 := 1056#32
  c1056_i32
def k0_mult36 : BitVec 32 :=
  let c1088_i32 : BitVec 32 := 1088#32
  c1088_i32
def k0_mult37 : BitVec 32 :=
  let c1120_i32 : BitVec 32 := 1120#32
  c1120_i32
def k0_mult38 : BitVec 32 :=
  let c1152_i32 : BitVec 32 := 1152#32
  c1152_i32
def k0_mult39 : BitVec 32 :=
  let c1184_i32 : BitVec 32 := 1184#32
  c1184_i32
def k0_mult40 : BitVec 32 :=
  let c1216_i32 : BitVec 32 := 1216#32
  c1216_i32
def k0_mult41 : BitVec 32 :=
  let c1248_i32 : BitVec 32 := 1248#32
  c1248_i32
def k0_mult42 : BitVec 32 :=
  let c1280_i32 : BitVec 32 := 1280#32
  c1280_i32
def k0_mult43 : BitVec 32 :=
  let c1312_i32 : BitVec 32 := 1312#32
  c1312_i32
def k0_mult44 : BitVec 32 :=
  let c1344_i32 : BitVec 32 := 1344#32
  c1344_i32
def k0_mult45 : BitVec 32 :=
  let c1376_i32 : BitVec 32 := 1376#32
  c1376_i32
def k0_mult46 : BitVec 32 :=
  let c1408_i32 : BitVec 32 := 1408#32
  c1408_i32
def k0_mult47 : BitVec 32 :=
  let c1440_i32 : BitVec 32 := 1440#32
  c1440_i32
def k0_mult48 : BitVec 32 :=
  let c1472_i32 : BitVec 32 := 1472#32
  c1472_i32
def k0_mult49 : BitVec 32 :=
  let c1504_i32 : BitVec 32 := 1504#32
  c1504_i32
def k0_mult50 : BitVec 32 :=
  let c1536_i32 : BitVec 32 := 1536#32
  c1536_i32
def k0_mult51 : BitVec 32 :=
  let c1568_i32 : BitVec 32 := 1568#32
  c1568_i32
def k0_mult52 : BitVec 32 :=
  let c1600_i32 : BitVec 32 := 1600#32
  c1600_i32
def k0_mult53 : BitVec 32 :=
  let c1632_i32 : BitVec 32 := 1632#32
  c1632_i32
def k0_mult54 : BitVec 32 :=
  let c1664_i32 : BitVec 32 := 1664#32
  c1664_i32
def k0_mult55 : BitVec 32 :=
  let c1696_i32 : BitVec 32 := 1696#32
  c1696_i32
def k0_mult56 : BitVec 32 :=
  let c1728_i32 : BitVec 32 := 1728#32
  c1728_i32
def k0_mult57 : BitVec 32 :=
  let c1760_i32 : BitVec 32 := 1760#32
  c1760_i32
def k0_mult58 : BitVec 32 :=
  let c1792_i32 : BitVec 32 := 1792#32
  c1792_i32
def k0_mult59 : BitVec 32 :=
  let c1824_i32 : BitVec 32 := 1824#32
  c1824_i32
def k0_mult60 : BitVec 32 :=
  let c1856_i32 : BitVec 32 := 1856#32
  c1856_i32
def k0_mult61 : BitVec 32 :=
  let c1888_i32 : BitVec 32 := 1888#32
  c1888_i32
def k0_mult62 : BitVec 32 :=
  let c1920_i32 : BitVec 32 := 1920#32
  c1920_i32
def k0_mult63 : BitVec 32 :=
  let c1952_i32 : BitVec 32 := 1952#32
  c1952_i32
def k0_mult64 : BitVec 32 :=
  let c1984_i32 : BitVec 32 := 1984#32
  c1984_i32
def k0_mult65 : BitVec 32 :=
  let c2016_i32 : BitVec 32 := 2016#32
  c2016_i32
def k0_mult66 : BitVec 32 :=
  let c2048_i32 : BitVec 32 := 2048#32
  c2048_i32
def k0_mult67 : BitVec 32 :=
  let c2080_i32 : BitVec 32 := 2080#32
  c2080_i32
def k0_mult68 : BitVec 32 :=
  let c2112_i32 : BitVec 32 := 2112#32
  c2112_i32
def k0_mult69 : BitVec 32 :=
  let c2144_i32 : BitVec 32 := 2144#32
  c2144_i32
def k0_mult70 : BitVec 32 :=
  let c2176_i32 : BitVec 32 := 2176#32
  c2176_i32
def k0_mult71 : BitVec 32 :=
  let c2208_i32 : BitVec 32 := 2208#32
  c2208_i32
def k0_mult72 : BitVec 32 :=
  let c2240_i32 : BitVec 32 := 2240#32
  c2240_i32
def k0_mult73 : BitVec 32 :=
  let c2272_i32 : BitVec 32 := 2272#32
  c2272_i32
def k0_mult74 : BitVec 32 :=
  let c2304_i32 : BitVec 32 := 2304#32
  c2304_i32
def k0_mult75 : BitVec 32 :=
  let c2336_i32 : BitVec 32 := 2336#32
  c2336_i32
def k0_mult76 : BitVec 32 :=
  let c2368_i32 : BitVec 32 := 2368#32
  c2368_i32
def k0_mult77 : BitVec 32 :=
  let c2400_i32 : BitVec 32 := 2400#32
  c2400_i32
def k0_mult78 : BitVec 32 :=
  let c2432_i32 : BitVec 32 := 2432#32
  c2432_i32
def k0_mult79 : BitVec 32 :=
  let c2464_i32 : BitVec 32 := 2464#32
  c2464_i32
def k0_mult80 : BitVec 32 :=
  let c2496_i32 : BitVec 32 := 2496#32
  c2496_i32
def k0_mult81 : BitVec 32 :=
  let c2528_i32 : BitVec 32 := 2528#32
  c2528_i32
def k0_mult82 : BitVec 32 :=
  let c2560_i32 : BitVec 32 := 2560#32
  c2560_i32
def k0_mult83 : BitVec 32 :=
  let c2592_i32 : BitVec 32 := 2592#32
  c2592_i32
def k0_mult84 : BitVec 32 :=
  let c2624_i32 : BitVec 32 := 2624#32
  c2624_i32
def k0_mult85 : BitVec 32 :=
  let c2656_i32 : BitVec 32 := 2656#32
  c2656_i32
def k0_mult86 : BitVec 32 :=
  let c2688_i32 : BitVec 32 := 2688#32
  c2688_i32
def k0_mult87 : BitVec 32 :=
  let c2720_i32 : BitVec 32 := 2720#32
  c2720_i32
def k0_mult88 : BitVec 32 :=
  let c2752_i32 : BitVec 32 := 2752#32
  c2752_i32
def k0_mult89 : BitVec 32 :=
  let c2784_i32 : BitVec 32 := 2784#32
  c2784_i32
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S1536x2816 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2816x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S88x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1536x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1536x2816 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S12x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S4x384x2816 : Shape := ⟨3, ![4, 384, 2816]⟩
abbrev S2816x4096 : Shape := ⟨2, ![2816, 4096]⟩
abbrev S88x4096 : Shape := ⟨2, ![88, 4096]⟩
abbrev S1536x2816 : Shape := ⟨2, ![1536, 2816]⟩
abbrev S1536x4096 : Shape := ⟨2, ![1536, 4096]⟩
abbrev S12x1x128 : Shape := ⟨3, ![12, 1, 128]⟩
abbrev S1536 : Shape := ⟨1, ![1536]⟩
abbrev S1536x1 : Shape := ⟨2, ![1536, 1]⟩
abbrev S1536x254 : Shape := ⟨2, ![1536, 254]⟩
abbrev S88x32x4096 : Shape := ⟨3, ![88, 32, 4096]⟩
abbrev S88x1x4096 : Shape := ⟨3, ![88, 1, 4096]⟩

abbrev nBuf : Space → Nat
  | .hbm => 7
  | .vmem => 6
  | .smem => 0
  | _ => 0

abbrev bufTy : (tb : Table) → Fin (tcTables nBuf tb) → BufTy
  | .hbm, ⟨0, _⟩ => ⟨S4x384x2816, .bf16⟩
  | .hbm, ⟨1, _⟩ => ⟨S2816x4096, .fp8e4m3⟩
  | .hbm, ⟨2, _⟩ => ⟨S88x4096, .i8⟩
  | .hbm, ⟨3, _⟩ => ⟨S1536x2816, .bf16⟩
  | .hbm, ⟨4, _⟩ => ⟨S1536x4096, .bf16⟩
  | .hbm, ⟨5, _⟩ => ⟨S1536x2816, .fp8e4m3⟩
  | .hbm, ⟨6, _⟩ => ⟨S12x1x128, .f32⟩
  | .local _ .vmem, ⟨0, _⟩ => ⟨S1536x2816, .bf16⟩
  | .local _ .vmem, ⟨1, _⟩ => ⟨S2816x4096, .fp8e4m3⟩
  | .local _ .vmem, ⟨2, _⟩ => ⟨S88x4096, .i8⟩
  | .local _ .vmem, ⟨3, _⟩ => ⟨S1536x4096, .bf16⟩
  | .local _ .vmem, ⟨4, _⟩ => ⟨S1536x2816, .fp8e4m3⟩
  | .local _ .vmem, ⟨5, _⟩ => ⟨S12x1x128, .f32⟩
  | _, _ => ⟨S4x384x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S1536x2816 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2816x4096 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S88x4096 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1536x2816 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Runs.lean ====
/-
  What the two runs of the idealized kernel body share: the branch condition in closed form, the staging memrefs
  and the scratch operands as memrefs, and the invariant of the pipeline in terms of them.
-/
module

public import proofs.«01_k».proof.Proof.Gen.KernelIdeal.Frame
public import proofs.«01_k».proof.Proof.Gen.KernelIdeal.Loops

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, k0_cond1, e0]
    word_cmp
   : ∀ t : Fin grid0.N, cond0_0 (grid0.coords t) ↔ t.val % 8 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1536x2816 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2816x512 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S88x512 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1536x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1536x2816 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S12x1x128 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S1536x2816 .bf16 := Memref.whole cc0_scratch0
abbrev scM0_1 : Memref sig .tc .vmem S2816x512 .bf16 := Memref.whole cc0_scratch1
abbrev scM0_2 : Memref sig .tc .vmem S1536x128 .f32 := Memref.whole cc0_scratch2

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Hand

end
-- ==== Proof.RunA.lean ====
/-
  The kernel body at the first grid point, run once at symbolic operands: the stores it leaves in each output and
  each scratch, as pieces.
-/
module

public import proofs.«01_k».proof.Proof.Runs

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option backward.proofsInPublic true in
set_option maxHeartbeats 3260000 in
/-- What the body's stores leave in each output's staging memref, as pieces (last first) IN CASE A (`scf.if` 0 taken, `scf.if` 1 not taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S1536x2816 .bf16) (harg1 : arg1.IsWhole) (arg2 : Memref sig .tc .vmem S2816x512 .fp8e4m3) (harg2 : arg2.IsWhole) (arg3 : Memref sig .tc .vmem S88x512 .i8) (harg3 : arg3.IsWhole) (arg4 : Memref sig .tc .vmem S1536x512 .bf16) (harg4 : arg4.IsWhole) (arg5 : Memref sig .tc .vmem S1536x2816 .fp8e4m3) (harg5 : arg5.IsWhole) (arg6 : Memref sig .tc .vmem S12x1x128 .f32) (harg6 : arg6.IsWhole) (arg7 : Memref sig .tc .vmem S1536x2816 .bf16) (harg7 : arg7.IsWhole) (arg8 : Memref sig .tc .vmem S2816x512 .bf16) (harg8 : arg8.IsWhole) (arg9 : Memref sig .tc .vmem S1536x128 .f32) (harg9 : arg9.IsWhole) (hc0 : cond0_0 i)
    (x0 : Vec F S1536x2816 .bf16) (x1 : Vec F S2816x512 .fp8e4m3) (x2 : Vec F S88x512 .i8) :
    Σ' (L3 : List (View.Piece (Elt F) S1536x512 .bf16)), Σ' (L4 : List (View.Piece (Elt F) S1536x2816 .fp8e4m3)), Σ' (L5 : List (View.Piece (Elt F) S12x1x128 .f32)), Σ' (LS0 : List (View.Piece (Elt F) S1536x2816 .bf16)), Σ' (LS2 : List (View.Piece (Elt F) S1536x128 .f32)), { LT1 : List (View.Piece (Elt F) S2816x512 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LT1) ∗ (∃ f, arg9.view.loc (c : Thread nD τ) ↦[arg9.view.set]{fullShare} arg9.view.writes (Elt F) f LS2)) -∗ K ⟨⟩))
          ⊢ wp frame (wpE (defs₀ (F := F)) Variants.none c none) E (cc0_mx_linear i arg1 harg1 arg2 harg2 arg3 harg3 arg4 harg4 arg5 harg5 arg6 harg6 arg7 harg7 arg8 harg8 arg9 harg9) K } := by
  refine ⟨?_, ?_, ?_, ?_, ?_, ?_, fun E K => ?run⟩
  case run =>
    simp only [cc0_mx_linear_eq_skeleton]; unfold cc0_mx_linear_skel
    simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2
    have hrd0 : ∀ (𝒱 : Variants) (c : Dev nD) (bd : Option 𝒱.V) (i : grid0.Coords) (arg1 : Memref sig .tc .vmem S1536x2816 .bf16) (harg1 : arg1.IsWhole) (arg2 : Memref sig .tc .vmem S2816x512 .fp8e4m3) (harg2 : arg2.IsWhole) (arg3 : Memref sig .tc .vmem S88x512 .i8) (harg3 : arg3.IsWhole) (arg4 : Memref sig .tc .vmem S1536x512 .bf16) (harg4 : arg4.IsWhole) (arg5 : Memref sig .tc .vmem S1536x2816 .fp8e4m3) (harg5 : arg5.IsWhole) (arg6 : Memref sig .tc .vmem S12x1x128 .f32) (harg6 : arg6.IsWhole) (arg7 : Memref sig .tc .vmem S1536x2816 .bf16) (harg7 : arg7.IsWhole) (arg8 : Memref sig .tc .vmem S2816x512 .bf16) (harg8 : arg8.IsWhole) (arg9 : Memref sig .tc .vmem S1536x128 .f32) (harg9 : arg9.IsWhole) (k0_h1 : k0_cond1 i = 1#1) (X_arg1 : BufTy.Contents (Elt F) arg1.view.ty) (hrdF : BufTy.Contents (Elt F) arg7.view.ty) (hrdB : LoadRect S1536x2816), arg7.view.readAt (Elt F) hrdB (arg7.view.writes (Elt F) hrdF (pb_k0_t1 (F := F) 𝒱 c bd i arg1 harg1 arg2 harg2 arg3 harg3 arg4 harg4 arg5 harg5 arg6 harg6 arg7 harg7 arg8 harg8 arg9 harg9 k0_h1 X_arg1 (Scf.trips k0_t1_loop.lb k0_t1_loop.ub k0_t1_loop.st)).2.2.1) = arg7.view.readCov (pb_k0_t1 (F := F) 𝒱 c bd i arg1 harg1 arg2 harg2 arg3 harg3 arg4 harg4 arg5 harg5 arg6 harg6 arg7 harg7 arg8 harg8 arg9 harg9 k0_h1 X_arg1 (Scf.trips k0_t1_loop.lb k0_t1_loop.ub k0_t1_loop.st)).2.2.1 hrdB := fun 𝒱 c bd i arg1 harg1 arg2 harg2 arg3 harg3 arg4 harg4 arg5 harg5 arg6 harg6 arg7 harg7 arg8 harg8 arg9 harg9 k0_h1 X_arg1 hrdF hrdB => View.readAt_writes_of_cover _ hrdF _ hrdB (fun hrdJ => View.cover_of_tiledL (pb_k0_t1 (F := F) 𝒱 c bd i arg1 harg1 arg2 harg2 arg3 harg3 arg4 harg4 arg5 harg5 arg6 harg6 arg7 harg7 arg8 harg8 arg9 harg9 k0_h1 X_arg1 (Scf.trips k0_t1_loop.lb k0_t1_loop.ub k0_t1_loop.st)).2.2.1 S128x2816.size (by sl_kernel_rfl) (hrdB.idx hrdJ))
    have hrd1 : ∀ (𝒱 : Variants) (c : Dev nD) (bd : Option 𝒱.V) (i : grid0.Coords) (arg1 : Memref sig .tc .vmem S1536x2816 .bf16) (harg1 : arg1.IsWhole) (arg2 : Memref sig .tc .vmem S2816x512 .fp8e4m3) (harg2 : arg2.IsWhole) (arg3 : Memref sig .tc .vmem S88x512 .i8) (harg3 : arg3.IsWhole) (arg4 : Memref sig .tc .vmem S1536x512 .bf16) (harg4 : arg4.IsWhole) (arg5 : Memref sig .tc .vmem S1536x2816 .fp8e4m3) (harg5 : arg5.IsWhole) (arg6 : Memref sig .tc .vmem S12x1x128 .f32) (harg6 : arg6.IsWhole) (arg7 : Memref sig .tc .vmem S1536x2816 .bf16) (harg7 : arg7.IsWhole) (arg8 : Memref sig .tc .vmem S2816x512 .bf16) (harg8 : arg8.IsWhole) (arg9 : Memref sig .tc .vmem S1536x128 .f32) (harg9 : arg9.IsWhole) (k0_h1 : k0_cond1 i = 1#1) (X_arg1 : BufTy.Contents (Elt F) arg1.view.ty) (hrdF : BufTy.Contents (Elt F) arg9.view.ty) (hrdB : LoadRect S1536x128), arg9.view.readAt (Elt F) hrdB (arg9.view.writes (Elt F) hrdF (pb_k0_t1 (F := F) 𝒱 c bd i arg1 harg1 arg2 harg2 arg3 harg3 arg4 harg4 arg5 harg5 arg6 harg6 arg7 harg7 arg8 harg8 arg9 harg9 k0_h1 X_arg1 (Scf.trips k0_t1_loop.lb k0_t1_loop.ub k0_t1_loop.st)).2.2.2) = arg9.view.readCov (pb_k0_t1 (F := F) 𝒱 c bd i arg1 harg1 arg2 harg2 arg3 harg3 arg4 harg4 arg5 harg5 arg6 harg6 arg7 harg7 arg8 harg8 arg9 harg9 k0_h1 X_arg1 (Scf.trips k0_t1_loop.lb k0_t1_loop.ub k0_t1_loop.st)).2.2.2 hrdB := fun 𝒱 c bd i arg1 harg1 arg2 harg2 arg3 harg3 arg4 harg4 arg5 harg5 arg6 harg6 arg7 harg7 arg8 harg8 arg9 harg9 k0_h1 X_arg1 hrdF hrdB => View.readAt_writes_of_cover _ hrdF _ hrdB (fun hrdJ => View.cover_of_tiledL (pb_k0_t1 (F := F) 𝒱 c bd i arg1 harg1 arg2 harg2 arg3 harg3 arg4 harg4 arg5 harg5 arg6 harg6 arg7 harg7 arg8 harg8 arg9 harg9 k0_h1 X_arg1 (Scf.trips k0_t1_loop.lb k0_t1_loop.ub k0_t1_loop.st)).2.2.2 S128x128.size (by sl_kernel_rfl) (hrdB.idx hrdJ))
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    isplitl [H5]; · iexists _; iexact H5
    isplitl [HS0]; · iexists _; iexact HS0
    isplitl [HS1]; · iexists _; iexact HS1
    iexists _; iexact HS2

end Cert.KernelIdeal.Hand

end
-- ==== Proof.Power.lean ====
/-
  Powers of two by their float exponent field, and the search for the exponent field of a number, over the
  extended reals. Nothing here mentions a program.
-/
module

public import Idealize.ShloMosaic.PureOps.Ideal.Laws
public import Idealize.ShloMosaic.Lib.ValueIdx

@[expose] public section

noncomputable section

namespace Cert.Power

open Idealize.ShloMosaic

/-- The number that the f32 word with exponent field `n`, sign 0 and fraction 0 denotes: `0` at `n = 0`, `+∞` from `n = 255`
    on, else `2 ^ (n - 127)`. -/
def pw (n : ℕ) : EReal := if n = 0 then 0 else if 255 ≤ n then ⊤ else (((2 : ℝ) ^ ((n : ℤ) - 127) : ℝ) : EReal)

theorem pw_zero : pw 0 = 0 := by simp [pw]

theorem pw_top {n : ℕ} (h : 255 ≤ n) : pw n = ⊤ := by
  unfold pw; rw [if_neg (by omega), if_pos h]

theorem pw_mid {n : ℕ} (h0 : n ≠ 0) (h : n < 255) : pw n = (((2 : ℝ) ^ ((n : ℤ) - 127) : ℝ) : EReal) := by
  unfold pw; rw [if_neg h0, if_neg (by omega)]

/-- The powers grow strictly up to `+∞`. -/
theorem pw_lt {n m : ℕ} (h : n < m) (hn : n < 255) : pw n < pw m := by
  rcases Nat.lt_or_ge m 255 with hm | hm
  · rw [pw_mid (by omega) hm]
    by_cases h0 : n = 0
    · subst h0; rw [pw_zero]; exact_mod_cast (by positivity : (0 : ℝ) < (2 : ℝ) ^ ((m : ℤ) - 127))
    · rw [pw_mid h0 hn]
      exact EReal.coe_lt_coe_iff.2 (zpow_lt_zpow_right₀ (by norm_num) (by omega))
  · rw [pw_top hm]
    by_cases h0 : n = 0
    · subst h0; rw [pw_zero]; exact EReal.zero_lt_top
    · rw [pw_mid h0 hn]; exact EReal.coe_lt_top _

theorem pw_le {n m : ℕ} (h : n ≤ m) : pw n ≤ pw m := by
  rcases Nat.lt_or_ge n 255 with hn | hn
  · rcases Nat.lt_or_ge n m with hl | hl
    · exact (pw_lt hl hn).le
    · rw [Nat.le_antisymm h hl]
  · rw [pw_top hn, pw_top (by omega)]

theorem bits_shl (n : Fin 256) :
    ((BitVec.ofNat 32 n.val <<< (23 : ℕ)).extractLsb' (8 + 23) 1 == 1#1) = false
    ∧ ((BitVec.ofNat 32 n.val <<< (23 : ℕ)).extractLsb' 23 8).toNat = n.val
    ∧ ((BitVec.ofNat 32 n.val <<< (23 : ℕ)).extractLsb' 0 23).toNat = 0 := by
  revert n; decide +kernel

/-- What an f32 word denotes whose sign is clear, whose exponent field is `n` and whose fraction is 0. -/
theorem ieee_of_field (b : BitVec 32) (n : ℕ) (h : n < 256) (h1 : (b.extractLsb' (8 + 23) 1 == 1#1) = false)
    (h2 : (b.extractLsb' 23 8).toNat = n) (h3 : (b.extractLsb' 0 23).toNat = 0) : Ideal.ieee 8 23 b = pw n := by
  unfold Ideal.ieee
  simp only [h1, h2, h3]
  by_cases h255 : n = 255
  · subst h255; simp [pw]
  · rw [if_neg (by norm_num; omega)]
    by_cases h0 : n = 0
    · subst h0; simp [pw]
    · rw [if_neg h0, pw_mid h0 (by omega)]
      congr 1
      have : ((2 : ℝ) ^ ((n : ℤ) - 127)) = 2 ^ 23 * 2 ^ ((n : ℤ) - 127 - 23) := by
        rw [← zpow_natCast, ← zpow_add₀ (by norm_num)]; congr 1; push_cast; ring
      rw [this]; norm_num

/-- The f32 word `n <<< 23` denotes `pw n`. -/
theorem ofBits_shl (n : ℕ) (h : n < 256) : Ideal.ofBits .f32 (BitVec.ofNat 32 n <<< (23 : ℕ)) = pw n := by
  obtain ⟨h1, h2, h3⟩ := bits_shl ⟨n, h⟩
  exact ieee_of_field _ n h h1 h2 h3

/-- The vector unit's shift by 23, of a word below 256. -/
theorem ofBits_shli (n : ℕ) (h : n < 256) :
    Ideal.ofBits .f32 (IntOp.shli .vector (BitVec.ofNat 32 n) 23#32) = pw n := by
  have : IntOp.shli .vector (BitVec.ofNat 32 n) 23#32 = BitVec.ofNat 32 n <<< (23 : ℕ) := by
    simp [IntOp.shli]
  rw [this, ofBits_shl n h]

/-- One step of the search: the bit `d` is set where the word with it set still denotes at most `v`. -/
def step (v : EReal) (d b : BitVec 32) : BitVec 32 :=
  Scalar.select (Ideal.cmp .oge v (Ideal.ofBits .f32 (IntOp.shli .vector (IntOp.addi b d) 23#32))) (IntOp.addi b d) b

/-- The exponent field of `v`, found bit by bit from the highest. -/
def field (v : EReal) : BitVec 32 :=
  step v 1#32 (step v 2#32 (step v 4#32 (step v 8#32 (step v 16#32 (step v 32#32 (step v 64#32 (step v 128#32 0#32)))))))

theorem step_spec (v : EReal) (d m : ℕ) (hm : m + 2 * d ≤ 256) (hd : 0 < d) (hlo : pw m ≤ v) (hhi : v < pw (m + 2 * d)) :
    ∃ m', step v (BitVec.ofNat 32 d) (BitVec.ofNat 32 m) = BitVec.ofNat 32 m' ∧ m' + d ≤ 256 ∧ pw m' ≤ v
      ∧ v < pw (m' + d) := by
  have hadd : IntOp.addi (BitVec.ofNat 32 m) (BitVec.ofNat 32 d) = BitVec.ofNat 32 (m + d) := by
    show BitVec.ofNat 32 m + BitVec.ofNat 32 d = _
    rw [BitVec.ofNat_add]
  unfold step
  rw [hadd, ofBits_shli _ (by omega)]
  by_cases h : pw (m + d) ≤ v
  · refine ⟨m + d, ?_, by omega, h, by rw [show m + d + d = m + 2 * d by ring]; exact hhi⟩
    have : Ideal.cmp .oge v (pw (m + d)) = 1#1 := by simp [Ideal.cmp, h]
    rw [this]; rfl
  · refine ⟨m, ?_, by omega, hlo, not_le.1 h⟩
    have : Ideal.cmp .oge v (pw (m + d)) = 0#1 := by simp [Ideal.cmp, h]
    rw [this]; rfl

/-- The field found brackets the number: `pw n ≤ v < pw (n + 1)`. -/
theorem field_spec (v : EReal) (h0 : 0 ≤ v) (ht : v < ⊤) :
    ∃ n, field v = BitVec.ofNat 32 n ∧ n < 256 ∧ pw n ≤ v ∧ v < pw (n + 1) := by
  obtain ⟨a, ea, la, pa, qa⟩ := step_spec v 128 0 (by norm_num) (by norm_num) (by rw [pw_zero]; exact h0)
    (by rw [pw_top (by norm_num)]; exact ht)
  obtain ⟨b, eb, lb, pb, qb⟩ := step_spec v 64 a (by omega) (by norm_num) pa qa
  obtain ⟨c, ec, lc, pc, qc⟩ := step_spec v 32 b (by omega) (by norm_num) pb qb
  obtain ⟨d, ed, ld, pd, qd⟩ := step_spec v 16 c (by omega) (by norm_num) pc qc
  obtain ⟨e, ee, le, pe, qe⟩ := step_spec v 8 d (by omega) (by norm_num) pd qd
  obtain ⟨f, ef, lf, pf, qf⟩ := step_spec v 4 e (by omega) (by norm_num) pe qe
  obtain ⟨g, eg, lg, pg, qg⟩ := step_spec v 2 f (by omega) (by norm_num) pf qf
  obtain ⟨h, eh, lh, ph, qh⟩ := step_spec v 1 g (by omega) (by norm_num) pg qg
  refine ⟨h, ?_, by omega, ph, qh⟩
  unfold field
  rw [show (0#32 : BitVec 32) = BitVec.ofNat 32 0 from rfl, ea, eb, ec, ed, ee, ef, eg, eh]

/-- `2 ^ e` for an integer `e` of the normal range, as the exponential spells it. -/
theorem exp2_int (e : ℤ) : Ideal.exp2 (((e : ℤ) : ℝ) : EReal) = (((2 : ℝ) ^ e : ℝ) : EReal) := by
  rw [Ideal.exp2_coe]; congr 1; exact Real.rpow_intCast 2 e

end Cert.Power

end
-- ==== Proof.RunB.lean ====
/-
  The kernel body at every later grid point, run once at symbolic operands: the stores it leaves in the output block
  and in the scratch it rewrites, as pieces; everything else is left as it was found.
-/
module

public import proofs.«01_k».proof.Proof.RunA

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: the definition's epilogue — `abstractNestedProofs` — walks it past the default budget)
set_option maxHeartbeats 3180000 in
/-- What the body's stores leave in each output's staging memref, as pieces (last first) IN CASE B (`scf.if` 0 not taken, `scf.if` 1 taken: points 1, 2, … 7: 7 of 8), WITH the
    proof that on whole staging memrefs — the inputs' at their contents, the outputs it reads before covering (4, 5) at their running contents `xo·`, the other outputs' at
    anything, a carried scratch at the contents the point before left (`xs·`) or at anything, the other scratch at anything, the body runs to the continuation holding the inputs' as they were,
    a carried scratch it stored into with its pieces written (`LS·`), a scratch it stored into and does not carry with its pieces (`LT·`) written over some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S1536x2816 .bf16) (harg1 : arg1.IsWhole) (arg2 : Memref sig .tc .vmem S2816x512 .fp8e4m3) (harg2 : arg2.IsWhole) (arg3 : Memref sig .tc .vmem S88x512 .i8) (harg3 : arg3.IsWhole) (arg4 : Memref sig .tc .vmem S1536x512 .bf16) (harg4 : arg4.IsWhole) (arg5 : Memref sig .tc .vmem S1536x2816 .fp8e4m3) (harg5 : arg5.IsWhole) (arg6 : Memref sig .tc .vmem S12x1x128 .f32) (harg6 : arg6.IsWhole) (arg7 : Memref sig .tc .vmem S1536x2816 .bf16) (harg7 : arg7.IsWhole) (arg8 : Memref sig .tc .vmem S2816x512 .bf16) (harg8 : arg8.IsWhole) (arg9 : Memref sig .tc .vmem S1536x128 .f32) (harg9 : arg9.IsWhole) (hc0 : ¬cond0_0 i)
    (x0 : Vec F S1536x2816 .bf16) (x1 : Vec F S2816x512 .fp8e4m3) (x2 : Vec F S88x512 .i8) (xo4 : Vec F S1536x2816 .fp8e4m3) (xo5 : Vec F S12x1x128 .f32) (xs0 : Vec F S1536x2816 .bf16) (xs2 : Vec F S1536x128 .f32) :
    Σ' (L3 : List (View.Piece (Elt F) S1536x512 .bf16)), { LT1 : List (View.Piece (Elt F) S2816x512 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xo4 ∗ owns (c : Thread nD τ) arg6 fullShare xo5 ∗ owns (c : Thread nD τ) arg7 fullShare xs0 ∗ (∃ d, owns (c : Thread nD τ) arg8 fullShare d) ∗ owns (c : Thread nD τ) arg9 fullShare xs2
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ owns (c : Thread nD τ) arg5 fullShare xo4 ∗ owns (c : Thread nD τ) arg6 fullShare xo5 ∗ owns (c : Thread nD τ) arg7 fullShare xs0 ∗ (∃ f, arg8.view.loc (c : Thread nD τ) ↦[arg8.view.set]{fullShare} arg8.view.writes (Elt F) f LT1) ∗ owns (c : Thread nD τ) arg9 fullShare xs2) -∗ K ⟨⟩))
          ⊢ wp frame (wpE (defs₀ (F := F)) Variants.none c none) E (cc0_mx_linear i arg1 harg1 arg2 harg2 arg3 harg3 arg4 harg4 arg5 harg5 arg6 harg6 arg7 harg7 arg8 harg8 arg9 harg9) K } := by
  refine ⟨?_, ?_, fun E K => ?run⟩
  case run =>
    simp only [cc0_mx_linear_eq_skeleton]; unfold cc0_mx_linear_skel
    simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%fs0, %hfs0, HS0⟩, ⟨%ds1, %fs1, -, HS1⟩, ⟨%fs2, %hfs2, HS2⟩, Hk⟩
    obtain rfl := harg1.eq_unread hf0; obtain rfl := harg2.eq_unread hf1; obtain rfl := harg3.eq_unread hf2; obtain rfl := harg5.eq_unread hf4; obtain rfl := harg6.eq_unread hf5; obtain rfl := harg7.eq_unread hfs0; obtain rfl := harg9.eq_unread hfs2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]
    · iexists _; isplitr; · ipureintro; exact harg5.read_unread _
      iexact H4
    isplitl [H5]
    · iexists _; isplitr; · ipureintro; exact harg6.read_unread _
      iexact H5
    isplitl [HS0]
    · iexists _; isplitr; · ipureintro; exact harg7.read_unread _
      iexact HS0
    isplitl [HS1]; · iexists _; iexact HS1
    iexists _; isplitr; · ipureintro; exact harg9.read_unread _
    iexact HS2

end Cert.KernelIdeal.Hand

end
-- ==== Proof.Weights.lean ====
/-
  The weight block the body leaves in its scratch: each of the 88 stores of 32 rows is a block of one array, the
  weights scaled by their block's power of two.
-/
module

public import proofs.«01_k».proof.Proof.RunB
public import Idealize.ShloMosaic.Lib.ValueIdx
public import Idealize.ShloMosaic.Lib.Pointwise
public import Idealize.ShloMosaic.Lib.Pipeline.ValueKit
public import Idealize.ShloMosaic.Lib.Pipeline.ReadBack

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-- The scaled weights: each weight times the f32 number whose exponent field is its block's scale byte. -/
def wqOf (x1 : Vec Ideal S2816x512 .fp8e4m3) (x2 : Vec Ideal S88x512 .i8) : Vec Ideal S2816x512 .bf16 := fun y =>
  x1 y * Ideal.ofBits .f32 (IntOp.shli .vector
    ((x2 (ix2 ⟨(y 0).val / 32, by have : (y 0).val < 2816 := (y 0).isLt; omega⟩ (y 1))).setWidth 32) 23#32)

/-- One store: rows `o = 32 b` on, of the scaled weights. -/
theorem weight_piece (arg2 : Memref sig .tc .vmem S2816x512 .fp8e4m3) (harg2 : arg2.IsWhole)
    (arg3 : Memref sig .tc .vmem S88x512 .i8) (harg3 : arg3.IsWhole)
    (x1 : Vec Ideal S2816x512 .fp8e4m3) (x2 : Vec Ideal S88x512 .i8) (b o : ℕ) (ho : o = 32 * b)
    (inb1 : ∀ a, (![b, 0] : Fin 2 → ℕ) a + S1x512.size a ≤ S88x512.size a)
    (inb2 : ∀ a, (![o, 0] : Fin 2 → ℕ) a + S32x512.size a ≤ S2816x512.size a) (x : S32x512.Idx) :
    k0_pay15 (F := Ideal)
      (View.readAt (Elt Ideal) arg3.view (Rect.unit (s := S88x512) ![b, 0] S1x512.size inb1).toLoadRect (harg3.unread x2))
      (View.readAt (Elt Ideal) arg2.view (Rect.unit (s := S2816x512) ![o, 0] S32x512.size inb2).toLoadRect (harg2.unread x1)) x
      = wqOf x1 x2 ((Rect.unit (s := S2816x512) ![o, 0] S32x512.size inb2).emb x) := by
  have h0 : (x 0).val < 32 := (x 0).isLt
  have h1 : (x 1).val < 512 := (x 1).isLt
  have hb : o + 32 ≤ 2816 := inb2 0
  have he : (Rect.unit (s := S2816x512) ![o, 0] S32x512.size inb2).emb x = (ix2 ⟨o + (x 0).val, by omega⟩ (x 1) : S2816x512.Idx) :=
    funext fun a => Fin.ext (match a with
      | ⟨0, _⟩ => by show o + 1 * (x 0).val = o + (x 0).val; omega
      | ⟨1, _⟩ => by show 0 + 1 * (x 1).val = (x 1).val; omega)
  rw [he, View.readAt_eq_ld, View.readAt_eq_ld, harg2.read_unread, harg3.read_unread]
  unfold k0_pay15 wqOf
  pointwise
  have hd : (o + (x 0).val) / 32 = b := by omega
  simp only [hd]

/-- Stores that are blocks of one array and cover it leave that array, read through the box that is the whole of it. -/
theorem canon_whole (G : Vec Ideal S2816x512 .bf16) (L : List (View.Piece (Elt Ideal) S2816x512 .bf16))
    (hP : View.PiecesOf G L) (hc : ∀ y : S2816x512.Idx, ∃ p ∈ L, y ∈ p.1.set)
    (inb : ∀ a, (![0, 0] : Fin 2 → ℕ) a + S2816x512.size a ≤ S2816x512.size a) :
    (fun j => View.canon L ((Rect.unit (s := S2816x512) ![0, 0] S2816x512.size inb).toLoadRect.idx j)) = G := by
  funext j
  refine (View.canon_apply_of_pieces G L hP.mem _ (hc _)).trans (congrArg G (funext fun a => Fin.ext ?_))
  show (![0, 0] : Fin 2 → ℕ) a + 1 * (j a).val = (j a).val
  match a with
  | ⟨0, _⟩ => show 0 + 1 * (j 0).val = (j 0).val; omega
  | ⟨1, _⟩ => show 0 + 1 * (j 1).val = (j 1).val; omega

set_option maxHeartbeats 4000000 in
/-- What a later point stores in its output block: one piece, the scaled product of the kept quantised rows with the
    scaled weights. -/
theorem caseB_pieces (c : Dev nD) (i : grid0.Coords) (arg1 : Memref sig .tc .vmem S1536x2816 .bf16) (harg1 : arg1.IsWhole) (arg2 : Memref sig .tc .vmem S2816x512 .fp8e4m3) (harg2 : arg2.IsWhole) (arg3 : Memref sig .tc .vmem S88x512 .i8) (harg3 : arg3.IsWhole) (arg4 : Memref sig .tc .vmem S1536x512 .bf16) (harg4 : arg4.IsWhole) (arg5 : Memref sig .tc .vmem S1536x2816 .fp8e4m3) (harg5 : arg5.IsWhole) (arg6 : Memref sig .tc .vmem S12x1x128 .f32) (harg6 : arg6.IsWhole) (arg7 : Memref sig .tc .vmem S1536x2816 .bf16) (harg7 : arg7.IsWhole) (arg8 : Memref sig .tc .vmem S2816x512 .bf16) (harg8 : arg8.IsWhole) (arg9 : Memref sig .tc .vmem S1536x128 .f32) (harg9 : arg9.IsWhole) (hc0 : ¬cond0_0 i)
    (x0 : Vec Ideal S1536x2816 .bf16) (x1 : Vec Ideal S2816x512 .fp8e4m3) (x2 : Vec Ideal S88x512 .i8) (xo4 : Vec Ideal S1536x2816 .fp8e4m3) (xo5 : Vec Ideal S12x1x128 .f32) (xs0 : Vec Ideal S1536x2816 .bf16) (xs2 : Vec Ideal S1536x128 .f32) :
    (kernelRun0_B (F := Ideal) c i arg1 harg1 arg2 harg2 arg3 harg3 arg4 harg4 arg5 harg5 arg6 harg6 arg7 harg7 arg8 harg8 arg9 harg9 hc0 x0 x1 x2 xo4 xo5 xs0 xs2).1
      = [⟨Rect.unit ![0, 0] S1536x512.size inb_S1536x512_S1536x512_0_0, k0_pay1 (k0_pay130 xs0 (wqOf x1 x2))
          (View.ld xs2 (Rect.unit (s := S1536x128) ![0, 0] S1536x1.size inb_S1536x128_S1536x1_0_0))⟩] := by
  unfold kernelRun0_B
  frame_open
  refine congrArg (fun p => [(⟨_, p⟩ : View.Piece (Elt Ideal) S1536x512 .bf16)])
    (congr (congrArg k0_pay1 (congr (congrArg k0_pay130 ?_) ?_)) ?_)
  · rw [View.readAt_eq_ld, harg7.read_unread, View.ld_unit_lit _ _ (by decide)]
  · rw [View.readCov_eq_canon']
    refine canon_whole (wqOf x1 x2) _ ?_ ?_ _
    · repeat' first | exact trivial | refine ⟨weight_piece arg2 harg2 arg3 harg3 x1 x2 _ _ (by decide) _ _, ?_⟩
    · exact View.cover_of_tiledL (s := S2816x512) _ S32x512.size (by sl_kernel_rfl)
  · rw [View.readAt_eq_ld, harg9.read_unread]

end Cert.KernelIdeal.Hand

end
-- ==== Proof.Rows.lean ====
/-
  The quantisation of one row, as the kernel does it: the row's largest magnitude over 448, the power of two taken
  from its exponent, and the row times that power's inverse, clipped.
-/
module

public import proofs.«01_k».proof.Proof.Power
public import proofs.«01_k».proof.Proof.Weights

@[expose] public section

set_option maxRecDepth 16384

noncomputable section

namespace Cert.KernelIdeal.Hand

open Cert.KernelIdeal Cert.KernelIdeal.Gen Cert.Power
open Idealize.ShloMosaic Idealize.ShloMosaic.TcCoe Idealize.ShloMosaic.Tactic

/-- A row's largest magnitude, times the constant nearest 1/448. -/
def rowV (f : Fin 2816 → EReal) : EReal :=
  (Finset.univ.fold max (⊥ : EReal) fun k => max (f k) (-(f k))) * Ideal.ofBits .f32 0x3B124925#32

/-- The exponent the kernel takes from the field: 0 where the field is 0 or 255, else the field less 126. -/
def eOf (v : EReal) : BitVec 32 :=
  Scalar.select (IntOp.ori (IntOp.cmpi .eq (field v) 0#32) (IntOp.cmpi .eq (field v) 255#32)) 0#32 (IntOp.subi (field v) 126#32)

/-- The scale: the word with exponent field 127 more than the exponent. -/
def sOf (v : EReal) : EReal := Ideal.ofBits .f32 (IntOp.shli .vector (IntOp.addi 127#32 (eOf v)) 23#32)

/-- The inverse scale: the word with exponent field 127 less the exponent. -/
def iOf (v : EReal) : EReal := Ideal.ofBits .f32 (IntOp.shli .vector (IntOp.subi 127#32 (eOf v)) 23#32)

/-- A number clipped to the format's range. -/
def clip (z : EReal) : EReal := min (Ideal.ofBits .f32 0x43E00000#32) (max (Ideal.ofBits .f32 0xC3E00000#32) z)

/-- The row's largest magnitude over 448, as the payload computes it. -/
theorem pay3_at (X : Vec Ideal S128x2816 .bf16) (r : Fin 128) :
    k0_pay3 (F := Ideal) X (ix2 r 0 : S128x1.Idx) = rowV fun k => X (ix2 r k) := by
  unfold k0_pay3 k0_pay2 rowV
  pointwise
  have h : Ideal.ofBits .bf16 0xFF80#16 = ⊥ := by
    unfold Ideal.ofBits; rfl
  rw [h]
  rfl

/-- One step of the search, on a column. -/
def stepV (V : FVec Ideal S128x1 .f32) (d : BitVec 32) (B : IVec S128x1 32) : IVec S128x1 32 :=
  select (cmpf .oge V (bitcastToFloat .f32 (shli (addi B (broadcast S128x1 d)) (broadcast S128x1 23#32))))
    (addi B (broadcast S128x1 d)) B

theorem stepV_at (V : FVec Ideal S128x1 .f32) (d : BitVec 32) (B : IVec S128x1 32) (j : S128x1.Idx) :
    stepV V d B j = step (V j) d (B j) := rfl

theorem pay4_eq (X : Vec Ideal S128x2816 .bf16) :
    k0_pay4 (F := Ideal) X = stepV (k0_pay3 (F := Ideal) X) 16#32 (stepV (k0_pay3 (F := Ideal) X) 32#32
      (stepV (k0_pay3 (F := Ideal) X) 64#32 (stepV (k0_pay3 (F := Ideal) X) 128#32 (broadcast S128x1 0#32)))) := rfl

theorem pay7_eq (V : FVec Ideal S128x1 .f32) (B : IVec S128x1 32) (j : S128x1.Idx) :
    k0_pay7 (F := Ideal) V B (addi B (broadcast S128x1 8#32)) (shli (addi B (broadcast S128x1 8#32)) (broadcast S128x1 23#32)) j
      = (fun b : BitVec 32 => Scalar.select (IntOp.ori (IntOp.cmpi .eq b 0#32) (IntOp.cmpi .eq b 255#32)) 0#32 (IntOp.subi b 126#32))
        (stepV V 1#32 (stepV V 2#32 (stepV V 4#32 (stepV V 8#32 B))) j) := rfl

/-- The exponent of a row. -/
theorem pay7_at (X : Vec Ideal S128x2816 .bf16) (r : Fin 128) :
    k0_pay7 (F := Ideal) (k0_pay3 (F := Ideal) X) (k0_pay4 (F := Ideal) X) (k0_pay5 (F := Ideal) X) (k0_pay6 (F := Ideal) X)
      (ix2 r 0 : S128x1.Idx) = eOf (rowV fun k => X (ix2 r k)) := by
  rw [← pay3_at]
  unfold k0_pay6 k0_pay5
  rw [pay7_eq, pay4_eq]
  simp only [stepV_at]
  rfl

/-- The scale of a row. -/
theorem pay8_at (X : Vec Ideal S128x2816 .bf16) (r : Fin 128) :
    k0_pay8 (F := Ideal) (k0_pay3 (F := Ideal) X) (k0_pay4 (F := Ideal) X) (k0_pay5 (F := Ideal) X) (k0_pay6 (F := Ideal) X)
      (ix2 r 0 : S128x1.Idx) = sOf (rowV fun k => X (ix2 r k)) := by
  unfold sOf
  rw [← pay7_at]
  rfl

/-- The codes of a row. -/
theorem pay10_at (X : Vec Ideal S128x2816 .bf16) (r : Fin 128) (k : Fin 2816) :
    k0_pay10 (F := Ideal) (k0_pay9 (F := Ideal) (k0_pay2 (F := Ideal) X) (k0_pay3 (F := Ideal) X) (k0_pay4 (F := Ideal) X)
        (k0_pay5 (F := Ideal) X) (k0_pay6 (F := Ideal) X)) (ix2 r k : S128x2816.Idx)
      = clip (X (ix2 r k) * iOf (rowV fun k => X (ix2 r k))) := by
  unfold iOf clip k0_pay10 k0_pay9 k0_pay2
  rw [← pay7_at]
  generalize k0_pay7 (F := Ideal) _ _ _ _ = w
  pointwise

/-- The codes of a row, as the matrix product reads them. -/
theorem pay11_at (X : Vec Ideal S128x2816 .bf16) (r : Fin 128) (k : Fin 2816) :
    k0_pay11 (F := Ideal) (k0_pay9 (F := Ideal) (k0_pay2 (F := Ideal) X) (k0_pay3 (F := Ideal) X) (k0_pay4 (F := Ideal) X)
        (k0_pay5 (F := Ideal) X) (k0_pay6 (F := Ideal) X)) (ix2 r k : S128x2816.Idx)
      = clip (X (ix2 r k) * iOf (rowV fun k => X (ix2 r k))) := by
  rw [← pay10_at]
  unfold k0_pay11
  generalize k0_pay10 (F := Ideal) _ = w
  pointwise

/-- The scales, one row's along the whole of its 128 lanes. -/
theorem pay13_at (X : Vec Ideal S128x2816 .bf16) (r : Fin 128) (l : Fin 128) :
    k0_pay13 (F := Ideal) (k0_pay8 (F := Ideal) (k0_pay3 (F := Ideal) X) (k0_pay4 (F := Ideal) X) (k0_pay5 (F := Ideal) X) (k0_pay6 (F := Ideal) X))
      (ix2 r l : S128x128.Idx) = sOf (rowV fun k => X (ix2 r k)) := by
  rw [← pay8_at]
  generalize k0_pay8 (F := Ideal) _ _ _ _ = w
  unfold k0_pay13 k0_pay12
  pointwise

/-- The scales with the rows laid along the lanes: the diagonal of the previous, summed over the rows. -/
theorem pay14_at (X : Vec Ideal S128x2816 .bf16) (l : Fin 128) :
    k0_pay14 (F := Ideal) (k0_pay8 (F := Ideal) (k0_pay3 (F := Ideal) X) (k0_pay4 (F := Ideal) X) (k0_pay5 (F := Ideal) X) (k0_pay6 (F := Ideal) X))
      (ix3 0 0 l : S1x1x128.Idx) = sOf (rowV fun k => X (ix2 l k)) := by
  rw [← pay8_at]
  generalize k0_pay8 (F := Ideal) _ _ _ _ = w
  unfold k0_pay14 k0_pay12
  pointwise
  refine (Finset.sum_eq_single l (fun x _ hx => ?_) (fun h => absurd (Finset.mem_univ l) h)).trans ?_
  · have hne : BitVec.ofNat 32 x.val ≠ BitVec.ofNat 32 l.val := fun h => hx (Fin.ext (by
      have h2 := congrArg BitVec.toNat h
      simp only [BitVec.toNat_ofNat] at h2
      omega))
    have : IntOp.cmpi .eq (BitVec.ofNat 32 x.val) (BitVec.ofNat 32 l.val) = 0#1 := by
      show BitVec.ofBool (BitVec.ofNat 32 x.val == BitVec.ofNat 32 l.val) = 0#1
      rw [beq_false_of_ne hne]; rfl
    rw [this]; rfl
  · have : IntOp.cmpi .eq (BitVec.ofNat 32 l.val) (BitVec.ofNat 32 l.val) = 1#1 := by
      simp [IntOp.cmpi]
    rw [this]; rfl

end Cert.KernelIdeal.Hand
end
-- ==== Proof.CaseA.lean ====
/-
  What the first point stores: the codes, the scales and their copies in the scratch, each 128 rows a trip, as blocks
  of whole arrays; and the first block of the product.
-/
module

public import proofs.«01_k».proof.Proof.RunA
public import proofs.«01_k».proof.Proof.Rows

@[expose] public section

set_option maxRecDepth 16384

noncomputable section

namespace Cert.KernelIdeal.Hand

open Cert.KernelIdeal Cert.KernelIdeal.Gen Cert.Power
open Idealize.ShloMosaic Idealize.ShloMosaic.TcCoe Idealize.ShloMosaic.Tactic

/-- The codes of the whole of the rows. -/
def codesOf (x0 : Vec Ideal S1536x2816 .bf16) : Vec Ideal S1536x2816 .fp8e4m3 := fun y =>
  clip (x0 y * iOf (rowV fun k => x0 (ix2 (y 0) k)))

/-- The same as the matrix product reads them. -/
def xqOf (x0 : Vec Ideal S1536x2816 .bf16) : Vec Ideal S1536x2816 .bf16 := fun y =>
  clip (x0 y * iOf (rowV fun k => x0 (ix2 (y 0) k)))

/-- The scale of each row, along its 128 lanes. -/
def scOf (x0 : Vec Ideal S1536x2816 .bf16) : Vec Ideal S1536x128 .f32 := fun y =>
  sOf (rowV fun k => x0 (ix2 (y 0) k))

/-- The scales, 128 rows along the lanes of one row. -/
def xsOf (x0 : Vec Ideal S1536x2816 .bf16) : Vec Ideal S12x1x128 .f32 := fun y =>
  sOf (rowV fun k => x0 (ix2 ⟨128 * (y 0).val + (y 2).val, by
    have h0 : (y 0).val < 12 := (y 0).isLt
    have h2 : (y 2).val < 128 := (y 2).isLt
    omega⟩ k))

/-- A block of the product: the quantised rows times the scaled weights, each row times its scale. -/
def yOf (x1 : Vec Ideal S2816x512 .fp8e4m3) (x2 : Vec Ideal S88x512 .i8) (xq : Vec Ideal S1536x2816 .bf16)
    (sc : Vec Ideal S1536x128 .f32) : Vec Ideal S1536x512 .bf16 :=
  k0_pay1 (F := Ideal) (k0_pay130 (F := Ideal) xq (wqOf x1 x2))
    (View.ld sc (Rect.unit (s := S1536x128) ![0, 0] S1536x1.size inb_S1536x128_S1536x1_0_0))

/-! ## One trip -/

theorem trips_eq : k0_t1_loop.trips = 12 := by decide +kernel

variable (arg1 : Memref sig .tc .vmem S1536x2816 .bf16) (harg1 : arg1.IsWhole) (x0 : Vec Ideal S1536x2816 .bf16)

/-- The rows a trip loads. -/
theorem chunk_at (k : Fin k0_t1_loop.trips)
    (inb : ∀ a, k0_off1 k a + S128x2816.size a ≤ S1536x2816.size a) (r : Fin 128) (l : Fin 2816) (h : 128 * k.val + r.val < 1536) :
    View.readAt (Elt Ideal) arg1.view (Rect.unit (s := S1536x2816) (k0_off1 k) S128x2816.size inb).toLoadRect (harg1.unread x0)
      (ix2 r l : S128x2816.Idx) = x0 (ix2 ⟨128 * k.val + r.val, h⟩ l) := by
  rw [View.readAt_eq_ld, harg1.read_unread]
  refine congrArg x0 (funext fun a => Fin.ext ?_)
  match a with
  | ⟨0, _⟩ =>
    show k0_off1 k 0 + 1 * r.val = 128 * k.val + r.val
    rw [k0_off1_eq]; show 128 * k.val + 1 * r.val = _; omega
  | ⟨1, _⟩ =>
    show k0_off1 k 1 + 1 * l.val = l.val
    rw [k0_off1_eq]; show 0 + 1 * l.val = _; omega

theorem emb1 (k : Fin k0_t1_loop.trips) (inb : ∀ a, k0_off1 k a + S128x2816.size a ≤ S1536x2816.size a)
    (r : Fin 128) (l : Fin 2816) (h : 128 * k.val + r.val < 1536) :
    (Rect.unit (s := S1536x2816) (k0_off1 k) S128x2816.size inb).emb (ix2 r l : S128x2816.Idx)
      = (ix2 ⟨128 * k.val + r.val, h⟩ l : S1536x2816.Idx) := by
  refine funext fun a => Fin.ext ?_
  match a with
  | ⟨0, _⟩ =>
    show k0_off1 k 0 + 1 * r.val = 128 * k.val + r.val
    rw [k0_off1_eq]; show 128 * k.val + 1 * r.val = _; omega
  | ⟨1, _⟩ =>
    show k0_off1 k 1 + 1 * l.val = l.val
    rw [k0_off1_eq]; show 0 + 1 * l.val = _; omega

theorem emb2 (k : Fin k0_t1_loop.trips) (inb : ∀ a, k0_off2 k a + S128x128.size a ≤ S1536x128.size a)
    (r : Fin 128) (l : Fin 128) (h : 128 * k.val + r.val < 1536) :
    (Rect.unit (s := S1536x128) (k0_off2 k) S128x128.size inb).emb (ix2 r l : S128x128.Idx)
      = (ix2 ⟨128 * k.val + r.val, h⟩ l : S1536x128.Idx) := by
  refine funext fun a => Fin.ext ?_
  match a with
  | ⟨0, _⟩ =>
    show k0_off2 k 0 + 1 * r.val = 128 * k.val + r.val
    rw [k0_off2_eq]; show 128 * k.val + 1 * r.val = _; omega
  | ⟨1, _⟩ =>
    show k0_off2 k 1 + 1 * l.val = l.val
    rw [k0_off2_eq]; show 0 + 1 * l.val = _; omega

theorem emb3 (k : Fin k0_t1_loop.trips) (inb : ∀ a, k0_off3 k a + S1x1x128.size a ≤ S12x1x128.size a)
    (l : Fin 128) (h : k.val < 12) :
    (Rect.unit (s := S12x1x128) (k0_off3 k) S1x1x128.size inb).emb (ix3 0 0 l : S1x1x128.Idx)
      = (ix3 ⟨k.val, h⟩ 0 l : S12x1x128.Idx) := by
  refine funext fun a => Fin.ext ?_
  match a with
  | ⟨0, _⟩ =>
    show k0_off3 k 0 + 1 * 0 = k.val
    rw [k0_off3_eq]; show k.val + 1 * 0 = _; omega
  | ⟨1, _⟩ =>
    show k0_off3 k 1 + 1 * 0 = 0
    rw [k0_off3_eq]; rfl
  | ⟨2, _⟩ =>
    show k0_off3 k 2 + 1 * l.val = l.val
    rw [k0_off3_eq]; show 0 + 1 * l.val = _; omega

/-- A trip's stores of the codes, of their copy, of the scales' copy and of the scales are blocks of the whole arrays. -/
theorem codes_piece (k : Fin k0_t1_loop.trips) (inb inb') (x : S128x2816.Idx) :
    (fun X : Vec Ideal S128x2816 .bf16 => k0_pay10 (F := Ideal) (k0_pay9 (F := Ideal) (k0_pay2 (F := Ideal) X) (k0_pay3 (F := Ideal) X) (k0_pay4 (F := Ideal) X)
        (k0_pay5 (F := Ideal) X) (k0_pay6 (F := Ideal) X)))
      (View.readAt (Elt Ideal) arg1.view (Rect.unit (s := S1536x2816) (k0_off1 k) S128x2816.size inb).toLoadRect (harg1.unread x0)) x
      = codesOf x0 ((Rect.unit (s := S1536x2816) (k0_off1 k) S128x2816.size inb').emb x) := by
  have hk : k.val < 12 := lt_of_lt_of_eq k.isLt trips_eq
  obtain ⟨r, l, rfl⟩ : ∃ (r : Fin 128) (l : Fin 2816), x = ix2 r l := ⟨x 0, x 1, eq_ix2 x⟩
  have h : 128 * k.val + r.val < 1536 := by omega
  dsimp only
  rw [pay10_at, emb1 k _ r l h]
  simp only [chunk_at arg1 harg1 x0 k inb r _ h]
  rfl

theorem xq_piece (k : Fin k0_t1_loop.trips) (inb inb') (x : S128x2816.Idx) :
    (fun X : Vec Ideal S128x2816 .bf16 => k0_pay11 (F := Ideal) (k0_pay9 (F := Ideal) (k0_pay2 (F := Ideal) X) (k0_pay3 (F := Ideal) X) (k0_pay4 (F := Ideal) X)
        (k0_pay5 (F := Ideal) X) (k0_pay6 (F := Ideal) X)))
      (View.readAt (Elt Ideal) arg1.view (Rect.unit (s := S1536x2816) (k0_off1 k) S128x2816.size inb).toLoadRect (harg1.unread x0)) x
      = xqOf x0 ((Rect.unit (s := S1536x2816) (k0_off1 k) S128x2816.size inb').emb x) := by
  have hk : k.val < 12 := lt_of_lt_of_eq k.isLt trips_eq
  obtain ⟨r, l, rfl⟩ : ∃ (r : Fin 128) (l : Fin 2816), x = ix2 r l := ⟨x 0, x 1, eq_ix2 x⟩
  have h : 128 * k.val + r.val < 1536 := by omega
  dsimp only
  rw [pay11_at, emb1 k _ r l h]
  simp only [chunk_at arg1 harg1 x0 k inb r _ h]
  rfl

theorem sc_piece (k : Fin k0_t1_loop.trips) (inb inb') (x : S128x128.Idx) :
    (fun X : Vec Ideal S128x2816 .bf16 => k0_pay13 (F := Ideal) (k0_pay8 (F := Ideal) (k0_pay3 (F := Ideal) X) (k0_pay4 (F := Ideal) X)
        (k0_pay5 (F := Ideal) X) (k0_pay6 (F := Ideal) X)))
      (View.readAt (Elt Ideal) arg1.view (Rect.unit (s := S1536x2816) (k0_off1 k) S128x2816.size inb).toLoadRect (harg1.unread x0)) x
      = scOf x0 ((Rect.unit (s := S1536x128) (k0_off2 k) S128x128.size inb').emb x) := by
  have hk : k.val < 12 := lt_of_lt_of_eq k.isLt trips_eq
  obtain ⟨r, l, rfl⟩ : ∃ (r : Fin 128) (l : Fin 128), x = ix2 r l := ⟨x 0, x 1, eq_ix2 x⟩
  have h : 128 * k.val + r.val < 1536 := by omega
  dsimp only
  rw [pay13_at, emb2 k _ r l h]
  simp only [chunk_at arg1 harg1 x0 k inb r _ h]
  rfl

theorem xs_piece (k : Fin k0_t1_loop.trips) (inb inb') (x : S1x1x128.Idx) :
    (fun X : Vec Ideal S128x2816 .bf16 => k0_pay14 (F := Ideal) (k0_pay8 (F := Ideal) (k0_pay3 (F := Ideal) X) (k0_pay4 (F := Ideal) X)
        (k0_pay5 (F := Ideal) X) (k0_pay6 (F := Ideal) X)))
      (View.readAt (Elt Ideal) arg1.view (Rect.unit (s := S1536x2816) (k0_off1 k) S128x2816.size inb).toLoadRect (harg1.unread x0)) x
      = xsOf x0 ((Rect.unit (s := S12x1x128) (k0_off3 k) S1x1x128.size inb').emb x) := by
  have hk : k.val < 12 := lt_of_lt_of_eq k.isLt trips_eq
  obtain ⟨l, rfl⟩ : ∃ (l : Fin 128), x = ix3 0 0 l := ⟨x 2, (eq_ix3 x).trans (by
    have e0 : x 0 = (0 : Fin 1) := Subsingleton.elim (α := Fin 1) _ _
    have e1 : x 1 = (0 : Fin 1) := Subsingleton.elim (α := Fin 1) _ _
    rw [e0, e1])⟩
  have h : 128 * k.val + l.val < 1536 := by omega
  dsimp only
  rw [pay14_at, emb3 k _ l hk]
  simp only [chunk_at arg1 harg1 x0 k inb l _ h]
  rfl

/-! ## All trips -/

/-- Every piece of a list is a block of one array, if every piece of each of two parts is. -/
theorem piecesOf_append {s : Shape} {e : EltTy} (G : Vec Ideal s e) : ∀ (L L' : List (View.Piece (Elt Ideal) s e)),
    View.PiecesOf G L → View.PiecesOf G L' → View.PiecesOf G (L ++ L')
  | [], _, _, h' => h'
  | _ :: L, L', h, h' => ⟨h.1, piecesOf_append G L L' h.2 h'⟩

/-- After any number of trips, what was stored is blocks of the whole arrays. -/
theorem pb_pieces (c : Dev nD) (i : grid0.Coords) (arg1 : Memref sig .tc .vmem S1536x2816 .bf16) (harg1 : arg1.IsWhole) (arg2 : Memref sig .tc .vmem S2816x512 .fp8e4m3) (harg2 : arg2.IsWhole) (arg3 : Memref sig .tc .vmem S88x512 .i8) (harg3 : arg3.IsWhole) (arg4 : Memref sig .tc .vmem S1536x512 .bf16) (harg4 : arg4.IsWhole) (arg5 : Memref sig .tc .vmem S1536x2816 .fp8e4m3) (harg5 : arg5.IsWhole) (arg6 : Memref sig .tc .vmem S12x1x128 .f32) (harg6 : arg6.IsWhole) (arg7 : Memref sig .tc .vmem S1536x2816 .bf16) (harg7 : arg7.IsWhole) (arg8 : Memref sig .tc .vmem S2816x512 .bf16) (harg8 : arg8.IsWhole) (arg9 : Memref sig .tc .vmem S1536x128 .f32) (harg9 : arg9.IsWhole) (hc0 : cond0_0 i) (x0 : Vec Ideal S1536x2816 .bf16) :
    ∀ n ≤ k0_t1_loop.trips,
      View.PiecesOf (codesOf x0) (pb_k0_t1 (F := Ideal) Variants.none c none i arg1 harg1 arg2 harg2 arg3 harg3 arg4 harg4 arg5 harg5 arg6 harg6 arg7 harg7 arg8 harg8 arg9 harg9 hc0 (harg1.unread x0) n).1
      ∧ View.PiecesOf (xsOf x0) (pb_k0_t1 (F := Ideal) Variants.none c none i arg1 harg1 arg2 harg2 arg3 harg3 arg4 harg4 arg5 harg5 arg6 harg6 arg7 harg7 arg8 harg8 arg9 harg9 hc0 (harg1.unread x0) n).2.1
      ∧ View.PiecesOf (xqOf x0) (pb_k0_t1 (F := Ideal) Variants.none c none i arg1 harg1 arg2 harg2 arg3 harg3 arg4 harg4 arg5 harg5 arg6 harg6 arg7 harg7 arg8 harg8 arg9 harg9 hc0 (harg1.unread x0) n).2.2.1
      ∧ View.PiecesOf (scOf x0) (pb_k0_t1 (F := Ideal) Variants.none c none i arg1 harg1 arg2 harg2 arg3 harg3 arg4 harg4 arg5 harg5 arg6 harg6 arg7 harg7 arg8 harg8 arg9 harg9 hc0 (harg1.unread x0) n).2.2.2
  | 0, _ => ⟨trivial, trivial, trivial, trivial⟩
  | n + 1, hn => by
    obtain ⟨h1, h2, h3, h4⟩ := pb_pieces c i arg1 harg1 arg2 harg2 arg3 harg3 arg4 harg4 arg5 harg5 arg6 harg6 arg7 harg7 arg8 harg8 arg9 harg9 hc0 x0 n (by omega)
    have e := pb_k0_t1_succ (F := Ideal) Variants.none c none i arg1 harg1 arg2 harg2 arg3 harg3 arg4 harg4 arg5 harg5 arg6 harg6 arg7 harg7 arg8 harg8 arg9 harg9 hc0 (harg1.unread x0) ⟨n, hn⟩
    rw [show ((⟨n, hn⟩ : Fin k0_t1_loop.trips).val + 1) = n + 1 from rfl] at e
    rw [e]
    refine ⟨piecesOf_append _ _ _ ?_ h1, piecesOf_append _ _ _ ?_ h2, piecesOf_append _ _ _ ?_ h3, piecesOf_append _ _ _ ?_ h4⟩
    all_goals
      unfold tripL_k0_t1 trip_k0_t1
      frame_open
    · exact ⟨codes_piece arg1 harg1 x0 ⟨n, hn⟩ (k0_off1_inb i ⟨n, hn⟩ hc0) (k0_off1_inb i ⟨n, hn⟩ hc0), trivial⟩
    · exact ⟨xs_piece arg1 harg1 x0 ⟨n, hn⟩ (k0_off1_inb i ⟨n, hn⟩ hc0) (k0_off3_inb i ⟨n, hn⟩ hc0), trivial⟩
    · exact ⟨xq_piece arg1 harg1 x0 ⟨n, hn⟩ (k0_off1_inb i ⟨n, hn⟩ hc0) (k0_off1_inb i ⟨n, hn⟩ hc0), trivial⟩
    · exact ⟨sc_piece arg1 harg1 x0 ⟨n, hn⟩ (k0_off1_inb i ⟨n, hn⟩ hc0) (k0_off2_inb i ⟨n, hn⟩ hc0), trivial⟩

section
variable (c : Dev nD) (i : grid0.Coords) (arg1 : Memref sig .tc .vmem S1536x2816 .bf16) (harg1 : arg1.IsWhole) (arg2 : Memref sig .tc .vmem S2816x512 .fp8e4m3) (harg2 : arg2.IsWhole) (arg3 : Memref sig .tc .vmem S88x512 .i8) (harg3 : arg3.IsWhole) (arg4 : Memref sig .tc .vmem S1536x512 .bf16) (harg4 : arg4.IsWhole) (arg5 : Memref sig .tc .vmem S1536x2816 .fp8e4m3) (harg5 : arg5.IsWhole) (arg6 : Memref sig .tc .vmem S12x1x128 .f32) (harg6 : arg6.IsWhole) (arg7 : Memref sig .tc .vmem S1536x2816 .bf16) (harg7 : arg7.IsWhole) (arg8 : Memref sig .tc .vmem S2816x512 .bf16) (harg8 : arg8.IsWhole) (arg9 : Memref sig .tc .vmem S1536x128 .f32) (harg9 : arg9.IsWhole) (hc0 : cond0_0 i)
    (x0 : Vec Ideal S1536x2816 .bf16) (x1 : Vec Ideal S2816x512 .fp8e4m3) (x2 : Vec Ideal S88x512 .i8)

/-- The trips' stores cover their buffer. -/
theorem cover_codes : ∀ y, ∃ p ∈ (kernelRun0_A (F := Ideal) c i arg1 harg1 arg2 harg2 arg3 harg3 arg4 harg4 arg5 harg5 arg6 harg6 arg7 harg7 arg8 harg8 arg9 harg9 hc0 x0 x1 x2).2.1, y ∈ p.1.set := fun y =>
  View.cover_of_tiledL (kernelRun0_A (F := Ideal) c i arg1 harg1 arg2 harg2 arg3 harg3 arg4 harg4 arg5 harg5 arg6 harg6 arg7 harg7 arg8 harg8 arg9 harg9 hc0 x0 x1 x2).2.1 S128x2816.size (by sl_kernel_rfl) y

theorem run_codes : (kernelRun0_A (F := Ideal) c i arg1 harg1 arg2 harg2 arg3 harg3 arg4 harg4 arg5 harg5 arg6 harg6 arg7 harg7 arg8 harg8 arg9 harg9 hc0 x0 x1 x2).2.1
    = (pb_k0_t1 (F := Ideal) Variants.none c none i arg1 harg1 arg2 harg2 arg3 harg3 arg4 harg4 arg5 harg5 arg6 harg6 arg7 harg7 arg8 harg8 arg9 harg9 hc0 (harg1.unread x0) k0_t1_loop.trips).1 := by
  unfold kernelRun0_A
  frame_open
  rfl

/-- The first point leaves the codes in their buffer. -/
theorem caseA_codes : View.canon (kernelRun0_A (F := Ideal) c i arg1 harg1 arg2 harg2 arg3 harg3 arg4 harg4 arg5 harg5 arg6 harg6 arg7 harg7 arg8 harg8 arg9 harg9 hc0 x0 x1 x2).2.1 = codesOf x0 := by
  have hP := (pb_pieces c i arg1 harg1 arg2 harg2 arg3 harg3 arg4 harg4 arg5 harg5 arg6 harg6 arg7 harg7 arg8 harg8 arg9 harg9 hc0 x0 _ le_rfl).1
  rw [← run_codes c i arg1 harg1 arg2 harg2 arg3 harg3 arg4 harg4 arg5 harg5 arg6 harg6 arg7 harg7 arg8 harg8 arg9 harg9 hc0 x0 x1 x2] at hP
  exact funext fun y => View.canon_apply_of_pieces _ _ hP.mem y (cover_codes c i arg1 harg1 arg2 harg2 arg3 harg3 arg4 harg4 arg5 harg5 arg6 harg6 arg7 harg7 arg8 harg8 arg9 harg9 hc0 x0 x1 x2 y)

/-- The trips' stores cover their buffer. -/
theorem cover_xs : ∀ y, ∃ p ∈ (kernelRun0_A (F := Ideal) c i arg1 harg1 arg2 harg2 arg3 harg3 arg4 harg4 arg5 harg5 arg6 harg6 arg7 harg7 arg8 harg8 arg9 harg9 hc0 x0 x1 x2).2.2.1, y ∈ p.1.set := fun y =>
  View.cover_of_tiledL (kernelRun0_A (F := Ideal) c i arg1 harg1 arg2 harg2 arg3 harg3 arg4 harg4 arg5 harg5 arg6 harg6 arg7 harg7 arg8 harg8 arg9 harg9 hc0 x0 x1 x2).2.2.1 S1x1x128.size (by sl_kernel_rfl) y

theorem run_xs : (kernelRun0_A (F := Ideal) c i arg1 harg1 arg2 harg2 arg3 harg3 arg4 harg4 arg5 harg5 arg6 harg6 arg7 harg7 arg8 harg8 arg9 harg9 hc0 x0 x1 x2).2.2.1
    = (pb_k0_t1 (F := Ideal) Variants.none c none i arg1 harg1 arg2 harg2 arg3 harg3 arg4 harg4 arg5 harg5 arg6 harg6 arg7 harg7 arg8 harg8 arg9 harg9 hc0 (harg1.unread x0) k0_t1_loop.trips).2.1 := by
  unfold kernelRun0_A
  frame_open
  rfl

/-- The first point leaves the scales in their buffer. -/
theorem caseA_xs : View.canon (kernelRun0_A (F := Ideal) c i arg1 harg1 arg2 harg2 arg3 harg3 arg4 harg4 arg5 harg5 arg6 harg6 arg7 harg7 arg8 harg8 arg9 harg9 hc0 x0 x1 x2).2.2.1 = xsOf x0 := by
  have hP := (pb_pieces c i arg1 harg1 arg2 harg2 arg3 harg3 arg4 harg4 arg5 harg5 arg6 harg6 arg7 harg7 arg8 harg8 arg9 harg9 hc0 x0 _ le_rfl).2.1
  rw [← run_xs c i arg1 harg1 arg2 harg2 arg3 harg3 arg4 harg4 arg5 harg5 arg6 harg6 arg7 harg7 arg8 harg8 arg9 harg9 hc0 x0 x1 x2] at hP
  exact funext fun y => View.canon_apply_of_pieces _ _ hP.mem y (cover_xs c i arg1 harg1 arg2 harg2 arg3 harg3 arg4 harg4 arg5 harg5 arg6 harg6 arg7 harg7 arg8 harg8 arg9 harg9 hc0 x0 x1 x2 y)

/-- The trips' stores cover their buffer. -/
theorem cover_xq : ∀ y, ∃ p ∈ (kernelRun0_A (F := Ideal) c i arg1 harg1 arg2 harg2 arg3 harg3 arg4 harg4 arg5 harg5 arg6 harg6 arg7 harg7 arg8 harg8 arg9 harg9 hc0 x0 x1 x2).2.2.2.1, y ∈ p.1.set := fun y =>
  View.cover_of_tiledL (kernelRun0_A (F := Ideal) c i arg1 harg1 arg2 harg2 arg3 harg3 arg4 harg4 arg5 harg5 arg6 harg6 arg7 harg7 arg8 harg8 arg9 harg9 hc0 x0 x1 x2).2.2.2.1 S128x2816.size (by sl_kernel_rfl) y

theorem run_xq : (kernelRun0_A (F := Ideal) c i arg1 harg1 arg2 harg2 arg3 harg3 arg4 harg4 arg5 harg5 arg6 harg6 arg7 harg7 arg8 harg8 arg9 harg9 hc0 x0 x1 x2).2.2.2.1
    = (pb_k0_t1 (F := Ideal) Variants.none c none i arg1 harg1 arg2 harg2 arg3 harg3 arg4 harg4 arg5 harg5 arg6 harg6 arg7 harg7 arg8 harg8 arg9 harg9 hc0 (harg1.unread x0) k0_t1_loop.trips).2.2.1 := by
  unfold kernelRun0_A
  frame_open
  rfl

/-- The first point leaves the quantised rows in the scratch. -/
theorem caseA_xq : View.canon (kernelRun0_A (F := Ideal) c i arg1 harg1 arg2 harg2 arg3 harg3 arg4 harg4 arg5 harg5 arg6 harg6 arg7 harg7 arg8 harg8 arg9 harg9 hc0 x0 x1 x2).2.2.2.1 = xqOf x0 := by
  have hP := (pb_pieces c i arg1 harg1 arg2 harg2 arg3 harg3 arg4 harg4 arg5 harg5 arg6 harg6 arg7 harg7 arg8 harg8 arg9 harg9 hc0 x0 _ le_rfl).2.2.1
  rw [← run_xq c i arg1 harg1 arg2 harg2 arg3 harg3 arg4 harg4 arg5 harg5 arg6 harg6 arg7 harg7 arg8 harg8 arg9 harg9 hc0 x0 x1 x2] at hP
  exact funext fun y => View.canon_apply_of_pieces _ _ hP.mem y (cover_xq c i arg1 harg1 arg2 harg2 arg3 harg3 arg4 harg4 arg5 harg5 arg6 harg6 arg7 harg7 arg8 harg8 arg9 harg9 hc0 x0 x1 x2 y)

/-- The trips' stores cover their buffer. -/
theorem cover_sc : ∀ y, ∃ p ∈ (kernelRun0_A (F := Ideal) c i arg1 harg1 arg2 harg2 arg3 harg3 arg4 harg4 arg5 harg5 arg6 harg6 arg7 harg7 arg8 harg8 arg9 harg9 hc0 x0 x1 x2).2.2.2.2.1, y ∈ p.1.set := fun y =>
  View.cover_of_tiledL (kernelRun0_A (F := Ideal) c i arg1 harg1 arg2 harg2 arg3 harg3 arg4 harg4 arg5 harg5 arg6 harg6 arg7 harg7 arg8 harg8 arg9 harg9 hc0 x0 x1 x2).2.2.2.2.1 S128x128.size (by sl_kernel_rfl) y

theorem run_sc : (kernelRun0_A (F := Ideal) c i arg1 harg1 arg2 harg2 arg3 harg3 arg4 harg4 arg5 harg5 arg6 harg6 arg7 harg7 arg8 harg8 arg9 harg9 hc0 x0 x1 x2).2.2.2.2.1
    = (pb_k0_t1 (F := Ideal) Variants.none c none i arg1 harg1 arg2 harg2 arg3 harg3 arg4 harg4 arg5 harg5 arg6 harg6 arg7 harg7 arg8 harg8 arg9 harg9 hc0 (harg1.unread x0) k0_t1_loop.trips).2.2.2 := by
  unfold kernelRun0_A
  frame_open
  rfl

/-- The first point leaves each row's scale in the scratch. -/
theorem caseA_sc : View.canon (kernelRun0_A (F := Ideal) c i arg1 harg1 arg2 harg2 arg3 harg3 arg4 harg4 arg5 harg5 arg6 harg6 arg7 harg7 arg8 harg8 arg9 harg9 hc0 x0 x1 x2).2.2.2.2.1 = scOf x0 := by
  have hP := (pb_pieces c i arg1 harg1 arg2 harg2 arg3 harg3 arg4 harg4 arg5 harg5 arg6 harg6 arg7 harg7 arg8 harg8 arg9 harg9 hc0 x0 _ le_rfl).2.2.2
  rw [← run_sc c i arg1 harg1 arg2 harg2 arg3 harg3 arg4 harg4 arg5 harg5 arg6 harg6 arg7 harg7 arg8 harg8 arg9 harg9 hc0 x0 x1 x2] at hP
  exact funext fun y => View.canon_apply_of_pieces _ _ hP.mem y (cover_sc c i arg1 harg1 arg2 harg2 arg3 harg3 arg4 harg4 arg5 harg5 arg6 harg6 arg7 harg7 arg8 harg8 arg9 harg9 hc0 x0 x1 x2 y)

set_option maxHeartbeats 4000000 in
/-- What the first point stores in its output block: the scaled product of the quantised rows with the scaled weights. -/
theorem caseA_y : View.canon (kernelRun0_A (F := Ideal) c i arg1 harg1 arg2 harg2 arg3 harg3 arg4 harg4 arg5 harg5 arg6 harg6 arg7 harg7 arg8 harg8 arg9 harg9 hc0 x0 x1 x2).1 = yOf x1 x2 (xqOf x0) (scOf x0) := by
  have hq := caseA_xq c i arg1 harg1 arg2 harg2 arg3 harg3 arg4 harg4 arg5 harg5 arg6 harg6 arg7 harg7 arg8 harg8 arg9 harg9 hc0 x0 x1 x2
  have hs := caseA_sc c i arg1 harg1 arg2 harg2 arg3 harg3 arg4 harg4 arg5 harg5 arg6 harg6 arg7 harg7 arg8 harg8 arg9 harg9 hc0 x0 x1 x2
  rw [run_xq] at hq
  rw [run_sc] at hs
  unfold kernelRun0_A
  frame_open
  refine (View.canon_cons_unit_lit _ _ _ (by decide)).trans ?_
  unfold yOf
  refine congr (congrArg (k0_pay1 (F := Ideal)) (congr (congrArg (k0_pay130 (F := Ideal)) ?_) ?_)) ?_
  · rw [View.readCov_eq_canon']
    erw [hq]
    exact View.ld_unit_lit _ _ (by decide)
  · rw [View.readCov_eq_canon']
    refine canon_whole (wqOf x1 x2) _ ?_ ?_ _
    · repeat' first | exact trivial | refine ⟨weight_piece arg2 harg2 arg3 harg3 x1 x2 _ _ (by decide) _ _, ?_⟩
    · exact View.cover_of_tiledL (s := S2816x512) _ S32x512.size (by sl_kernel_rfl)
  · rw [View.readCov_eq_canon']
    erw [hs]

theorem coverA_y : ∀ y, ∃ p ∈ (kernelRun0_A (F := Ideal) c i arg1 harg1 arg2 harg2 arg3 harg3 arg4 harg4 arg5 harg5 arg6 harg6 arg7 harg7 arg8 harg8 arg9 harg9 hc0 x0 x1 x2).1, y ∈ p.1.set := fun y =>
  View.cover_of_tiledL (kernelRun0_A (F := Ideal) c i arg1 harg1 arg2 harg2 arg3 harg3 arg4 harg4 arg5 harg5 arg6 harg6 arg7 harg7 arg8 harg8 arg9 harg9 hc0 x0 x1 x2).1 S1536x512.size (by sl_kernel_rfl) y

end

section
variable (c : Dev nD) (i : grid0.Coords) (arg1 : Memref sig .tc .vmem S1536x2816 .bf16) (harg1 : arg1.IsWhole) (arg2 : Memref sig .tc .vmem S2816x512 .fp8e4m3) (harg2 : arg2.IsWhole) (arg3 : Memref sig .tc .vmem S88x512 .i8) (harg3 : arg3.IsWhole) (arg4 : Memref sig .tc .vmem S1536x512 .bf16) (harg4 : arg4.IsWhole) (arg5 : Memref sig .tc .vmem S1536x2816 .fp8e4m3) (harg5 : arg5.IsWhole) (arg6 : Memref sig .tc .vmem S12x1x128 .f32) (harg6 : arg6.IsWhole) (arg7 : Memref sig .tc .vmem S1536x2816 .bf16) (harg7 : arg7.IsWhole) (arg8 : Memref sig .tc .vmem S2816x512 .bf16) (harg8 : arg8.IsWhole) (arg9 : Memref sig .tc .vmem S1536x128 .f32) (harg9 : arg9.IsWhole) (hc0 : ¬cond0_0 i)
    (x0 : Vec Ideal S1536x2816 .bf16) (x1 : Vec Ideal S2816x512 .fp8e4m3) (x2 : Vec Ideal S88x512 .i8) (xo4 : Vec Ideal S1536x2816 .fp8e4m3) (xo5 : Vec Ideal S12x1x128 .f32) (xs0 : Vec Ideal S1536x2816 .bf16) (xs2 : Vec Ideal S1536x128 .f32)

/-- What a later point stores in its output block. -/
theorem caseB_y : View.canon (kernelRun0_B (F := Ideal) c i arg1 harg1 arg2 harg2 arg3 harg3 arg4 harg4 arg5 harg5 arg6 harg6 arg7 harg7 arg8 harg8 arg9 harg9 hc0 x0 x1 x2 xo4 xo5 xs0 xs2).1 = yOf x1 x2 xs0 xs2 := by
  rw [caseB_pieces]
  exact View.canon_cons_unit_lit _ _ _ (by decide)

theorem coverB_y : ∀ y, ∃ p ∈ (kernelRun0_B (F := Ideal) c i arg1 harg1 arg2 harg2 arg3 harg3 arg4 harg4 arg5 harg5 arg6 harg6 arg7 harg7 arg8 harg8 arg9 harg9 hc0 x0 x1 x2 xo4 xo5 xs0 xs2).1, y ∈ p.1.set := fun y =>
  View.cover_of_tiledL (kernelRun0_B (F := Ideal) c i arg1 harg1 arg2 harg2 arg3 harg3 arg4 harg4 arg5 harg5 arg6 harg6 arg7 harg7 arg8 harg8 arg9 harg9 hc0 x0 x1 x2 xo4 xo5 xs0 xs2).1 S1536x512.size (by sl_kernel_rfl) y

end

end Cert.KernelIdeal.Hand

end
-- ==== Proof.Run.lean ====
/-
  The run of the idealized kernel: what each buffer holds after every grid point, that the body meets it, and what the
  whole program leaves in memory.
-/
module

public import proofs.«01_k».proof.Proof.CaseA
public import proofs.«01_k».proof.Proof.RunB
public import Idealize.ShloMosaic.Lib.Claim
public import Idealize.ShloMosaic.Lib.Pipeline.TableIdle

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## Idle points and fresh buffers of the outputs written at the first point only -/

/-- The product's window is stored into at every point. -/
theorem liveAt0_3 : ∀ t : Fin cfg0.N, cfg0.idle 3 (grid0.coords t) = false := fun _ => rfl

/-- The first point stores into the codes' window, -/
theorem liveAt0_4_A : ∀ t : Fin cfg0.N, cond0_0 (grid0.coords t) → cfg0.idle 4 (grid0.coords t) = false := by decide +kernel
/-- and no other point does. -/
theorem idleAt0_4_B : ∀ t : Fin cfg0.N, ¬cond0_0 (grid0.coords t) → cfg0.idle 4 (grid0.coords t) = true := by decide +kernel
/-- Positions at which the codes' buffer holds nothing the body stored: the first, and after the write-back. -/
def freshTab0_4 : ℕ → Bool
  | 0 => true
  | n + 1 => (0x80 : ℕ).testBit n
theorem freshTab0_4_step : ∀ t : Fin cfg0.N,
    freshTab0_4 (t.val + 1) = ((cfg0.win 4).flush t || (cfg0.idle 4 (cfg0.grid.coords t) && freshTab0_4 t.val)) := by decide +kernel
theorem fresh0_4_eq (t : Fin cfg0.N) : cfg0.fresh 4 t.val = freshTab0_4 t.val :=
  Pipeline.Cfg.fresh_tab cfg0 4 freshTab0_4 rfl freshTab0_4_step t.val (Nat.le_of_lt t.isLt)
/-- After the first point the buffer holds what that point stored. -/
theorem notFresh0_4_B : ∀ t : Fin cfg0.N, ¬cond0_0 (grid0.coords t) → cfg0.fresh 4 t.val = false := by
  intro t; rw [fresh0_4_eq t]; revert t; decide +kernel

/-- The first point stores into the scales' window, -/
theorem liveAt0_5_A : ∀ t : Fin cfg0.N, cond0_0 (grid0.coords t) → cfg0.idle 5 (grid0.coords t) = false := by decide +kernel
/-- and no other point does. -/
theorem idleAt0_5_B : ∀ t : Fin cfg0.N, ¬cond0_0 (grid0.coords t) → cfg0.idle 5 (grid0.coords t) = true := by decide +kernel
/-- Positions at which the scales' buffer holds nothing the body stored: the first, and after the write-back. -/
def freshTab0_5 : ℕ → Bool
  | 0 => true
  | n + 1 => (0x80 : ℕ).testBit n
theorem freshTab0_5_step : ∀ t : Fin cfg0.N,
    freshTab0_5 (t.val + 1) = ((cfg0.win 5).flush t || (cfg0.idle 5 (cfg0.grid.coords t) && freshTab0_5 t.val)) := by decide +kernel
theorem fresh0_5_eq (t : Fin cfg0.N) : cfg0.fresh 5 t.val = freshTab0_5 t.val :=
  Pipeline.Cfg.fresh_tab cfg0 5 freshTab0_5 rfl freshTab0_5_step t.val (Nat.le_of_lt t.isLt)
/-- After the first point the buffer holds what that point stored. -/
theorem notFresh0_5_B : ∀ t : Fin cfg0.N, ¬cond0_0 (grid0.coords t) → cfg0.fresh 5 t.val = false := by
  intro t; rw [fresh0_5_eq t]; revert t; decide +kernel

/-! ## The contents, point by point -/

/-- The input rows: the first window's block, the same at every point. -/
def xOf (c : Dev nD) : Vec Ideal S1536x2816 .bf16 := iblk m c 0 ⟨0, by decide⟩

theorem iblk0_eq (c : Dev nD) (t : Fin cfg0.N) : iblk m c 0 t = xOf m c := rfl

/-- Between points: before the first the scratch at anything; later the quantised rows and the scales in their
    scratch, the weights' scratch at anything. -/
def PhiS (c : Dev nD) : (n : ℕ) → n ≤ cfg0.N → sProp 𝕄
  | 0, _ => Pipeline.ΦA spec0 c
  | n + 1, _ => iprop(iprop(owns (c : Thread nD τ) scM0_0 fullShare (xqOf (xOf m c)) ∗ (∃ d, owns (c : Thread nD τ) scM0_1 fullShare d) ∗ owns (c : Thread nD τ) scM0_2 fullShare (scOf (xOf m c))) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (xqOf (xOf m c)) ∗ (∃ d, owns (c : Thread nD τ) scM0_1 fullShare d) ∗ owns (c : Thread nD τ) scM0_2 fullShare (scOf (xOf m c))) ∗ (∃ r, prngReg c r)) := rfl

theorem PhiS_pos (c : Dev nD) (n : ℕ) (h : n ≤ cfg0.N) (hz : n ≠ 0) :
    PhiS m c n h = iprop(iprop(owns (c : Thread nD τ) scM0_0 fullShare (xqOf (xOf m c)) ∗ (∃ d, owns (c : Thread nD τ) scM0_1 fullShare d) ∗ owns (c : Thread nD τ) scM0_2 fullShare (scOf (xOf m c))) ∗ (∃ r, prngReg c r)) := by
  cases n with
  | zero => exact absurd rfl hz
  | succ n => rfl

/-- What the buffers hold after the body at each point: the inputs their blocks, the product's the block of the product,
    the codes' and the scales' the whole arrays. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => yOf (iblk m c 1 t) (iblk m c 2 t) (xqOf (xOf m c)) (scOf (xOf m c))
    | ⟨4, _⟩ => codesOf (xOf m c)
    | ⟨5, _⟩ => xsOf (xOf m c)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = yOf (iblk m c 1 t) (iblk m c 2 t) (xqOf (xOf m c)) (scOf (xOf m c)) := by dsimp only [dats]
theorem after0_4 (c : Dev nD) (t : Fin cfg0.N) : (dats m 0 c).after 4 t = codesOf (xOf m c) := by dsimp only [dats]
theorem after0_5 (c : Dev nD) (t : Fin cfg0.N) : (dats m 0 c).after 5 t = xsOf (xOf m c) := by dsimp only [dats]

theorem before0_0 (c : Dev nD) (t : Fin cfg0.N) (d) : (dats m 0 c).before 0 t d = xOf m c :=
  (before0_0_of m (dats m 0 c) (A_eq m c 0) (after0_0 m c) t d).trans (iblk0_eq m c t)
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- After the first point the buffer still holds what that point stored. -/
theorem before0_4_B (c : Dev nD) (t : Fin cfg0.N) (h0 : ¬cond0_0 (grid0.coords t)) (d) :
    (dats m 0 c).before 4 t d = codesOf (xOf m c) := by
  rw [Dat.before_out_traj _ 4 rfl (fun _ _ => rfl) (fun t _ _ _ => by rw [after0_4, after0_4]) t.val t rfl d,
    if_neg (by rw [notFresh0_4_B t h0]; exact Bool.false_ne_true)]
  dsimp only [dats]

/-- and a later point leaves it as it is. -/
theorem leaves0_4_B (c : Dev nD) (t : Fin cfg0.N) (h0 : ¬cond0_0 (grid0.coords t)) :
    (owns (c : Thread nD τ) (ms0_4 t) fullShare (codesOf (xOf m c)) : sProp 𝕄) ⊢ (dats m 0 c).leavesExact 4 t := by
  cases hf : (cfg0.win 4).flush t with
  | false =>
    rw [Dat.leavesExact_idle _ 4 t (idleAt0_4_B t h0) hf]
    simp only [before0_4_B m c t h0]
    iintro H
    iexists (fun _ => default)
    iexact H
  | true =>
    have e : (dats m 0 c).leavesExact 4 t = owns (c : Thread nD τ) (ms0_4 t) fullShare ((dats m 0 c).after 4 t) := by
      unfold Dat.leavesExact; rw [idleAt0_4_B t h0, hf]
    rw [e, after0_4]

/-- After the first point the buffer still holds what that point stored. -/
theorem before0_5_B (c : Dev nD) (t : Fin cfg0.N) (h0 : ¬cond0_0 (grid0.coords t)) (d) :
    (dats m 0 c).before 5 t d = xsOf (xOf m c) := by
  rw [Dat.before_out_traj _ 5 rfl (fun _ _ => rfl) (fun t _ _ _ => by rw [after0_5, after0_5]) t.val t rfl d,
    if_neg (by rw [notFresh0_5_B t h0]; exact Bool.false_ne_true)]
  dsimp only [dats]

/-- and a later point leaves it as it is. -/
theorem leaves0_5_B (c : Dev nD) (t : Fin cfg0.N) (h0 : ¬cond0_0 (grid0.coords t)) :
    (owns (c : Thread nD τ) (ms0_5 t) fullShare (xsOf (xOf m c)) : sProp 𝕄) ⊢ (dats m 0 c).leavesExact 5 t := by
  cases hf : (cfg0.win 5).flush t with
  | false =>
    rw [Dat.leavesExact_idle _ 5 t (idleAt0_5_B t h0) hf]
    simp only [before0_5_B m c t h0]
    iintro H
    iexists (fun _ => default)
    iexact H
  | true =>
    have e : (dats m 0 c).leavesExact 5 t = owns (c : Thread nD τ) (ms0_5 t) fullShare ((dats m 0 c).after 5 t) := by
      unfold Dat.leavesExact; rw [idleAt0_5_B t h0, hf]
    rw [e, after0_5]

/-! ## The body obligation -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 6400000 in
/-- The body at any point turns the one into the other: at the first point by its run there, at a later one by the
    run over the scratch the first point left. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 8 := lt_of_lt_of_eq t.isLt (show cfg0.N = 8 from N_0)
  by_cases h0 : cond0_0 (grid0.coords t)
  · have hz : t.val = 0 := by have := (hcond0_0 t).mp h0; omega
    rw [show (dats m 0 c).leavesExact 0 t = owns (c : Thread nD τ) (ms0_0 t) fullShare ((dats m 0 c).after 0 t) from by
      unfold Dat.leavesExact; rw [liveAt0_0 t], after0_0, iblk0_eq]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4_A t h0], after0_4]
    rw [show (dats m 0 c).leavesExact 5 t = owns (c : Thread nD τ) (ms0_5 t) fullShare ((dats m 0 c).after 5 t) from by
      unfold Dat.leavesExact; rw [liveAt0_5_A t h0], after0_5]
    rw [PhiS_castSucc m c t, PhiS_zero m c _ _ hz, PhiA0_eq]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ _ _ _ _ _ _ h0 (xOf m c) (iblk m c 1 t) (iblk m c 2 t)).2.2.2.2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    isplitl [HS2]; · iexact HS2
    iintro ⟨H0, H1, H2, ⟨%e3, H3⟩, ⟨%e4, H4⟩, ⟨%e5, H5⟩, ⟨%es0, HS0⟩, ⟨%fT1, HS1⟩, ⟨%es2, HS2⟩⟩
    isplitl [HS0 HS1 HS2 Hg]
    · isplitl [HS0 HS1 HS2]
      · isplitl [HS0]
        · unfold owns; iexists _; isplitr
          swap; · iexact HS0
          ipureintro; exact (View.read_writes_eq_canon _ _ _ (cover_xq c (grid0.coords t) _ _ _ _ _ _ _ _ _ _ _ _ _ _ _ _ _ _ h0 (xOf m c) (iblk m c 1 t) (iblk m c 2 t))).trans (caseA_xq c (grid0.coords t) _ _ _ _ _ _ _ _ _ _ _ _ _ _ _ _ _ _ h0 (xOf m c) (iblk m c 1 t) (iblk m c 2 t))
        isplitl [HS1]
        · iexists _; unfold owns; iexists _; isplitr
          swap; · iexact HS1
          ipureintro; rfl
        unfold owns; iexists _; isplitr
        swap; · iexact HS2
        ipureintro; exact (View.read_writes_eq_canon _ _ _ (cover_sc c (grid0.coords t) _ _ _ _ _ _ _ _ _ _ _ _ _ _ _ _ _ _ h0 (xOf m c) (iblk m c 1 t) (iblk m c 2 t))).trans (caseA_sc c (grid0.coords t) _ _ _ _ _ _ _ _ _ _ _ _ _ _ _ _ _ _ h0 (xOf m c) (iblk m c 1 t) (iblk m c 2 t))
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact (View.read_writes_eq_canon _ _ _ (coverA_y c (grid0.coords t) _ _ _ _ _ _ _ _ _ _ _ _ _ _ _ _ _ _ h0 (xOf m c) (iblk m c 1 t) (iblk m c 2 t))).trans (caseA_y c (grid0.coords t) _ _ _ _ _ _ _ _ _ _ _ _ _ _ _ _ _ _ h0 (xOf m c) (iblk m c 1 t) (iblk m c 2 t))
    isplitl [H4]
    · unfold owns; iexists _; isplitr
      swap; · iexact H4
      ipureintro; exact (View.read_writes_eq_canon _ _ _ (cover_codes c (grid0.coords t) _ _ _ _ _ _ _ _ _ _ _ _ _ _ _ _ _ _ h0 (xOf m c) (iblk m c 1 t) (iblk m c 2 t))).trans (caseA_codes c (grid0.coords t) _ _ _ _ _ _ _ _ _ _ _ _ _ _ _ _ _ _ h0 (xOf m c) (iblk m c 1 t) (iblk m c 2 t))
    unfold owns; iexists _; isplitr
    swap; · iexact H5
    ipureintro; exact (View.read_writes_eq_canon _ _ _ (cover_xs c (grid0.coords t) _ _ _ _ _ _ _ _ _ _ _ _ _ _ _ _ _ _ h0 (xOf m c) (iblk m c 1 t) (iblk m c 2 t))).trans (caseA_xs c (grid0.coords t) _ _ _ _ _ _ _ _ _ _ _ _ _ _ _ _ _ _ h0 (xOf m c) (iblk m c 1 t) (iblk m c 2 t))
  · have hz : t.val ≠ 0 := fun h => h0 ((hcond0_0 t).mpr (by omega))
    rw [show (dats m 0 c).leavesExact 0 t = owns (c : Thread nD τ) (ms0_0 t) fullShare ((dats m 0 c).after 0 t) from by
      unfold Dat.leavesExact; rw [liveAt0_0 t], after0_0, iblk0_eq]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [PhiS_castSucc m c t, PhiS_pos m c _ _ hz]
    simp only [before0_4_B m c t h0, before0_5_B m c t h0]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ _ _ _ _ _ _ h0 (xOf m c) (iblk m c 1 t) (iblk m c 2 t) (codesOf (xOf m c)) (xsOf (xOf m c)) (xqOf (xOf m c)) (scOf (xOf m c))).2.2 Set.univ _)
    isplitl [H0]; · iexact H0
    isplitl [H1]; · iexact H1
    isplitl [H2]; · iexact H2
    isplitl [H3]; · iexists _; iexact H3
    isplitl [H4]; · iexact H4
    isplitl [H5]; · iexact H5
    isplitl [HS0]; · iexact HS0
    isplitl [HS1]; · iexact HS1
    isplitl [HS2]; · iexact HS2
    iintro ⟨H0, H1, H2, ⟨%e3, H3⟩, H4, H5, HS0, ⟨%fT1, HS1⟩, HS2⟩
    isplitl [HS0 HS1 HS2 Hg]
    · isplitl [HS0 HS1 HS2]
      · isplitl [HS0]
        · iexact HS0
        isplitl [HS1]
        · iexists _; unfold owns; iexists _; isplitr
          swap; · iexact HS1
          ipureintro; rfl
        iexact HS2
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact (View.read_writes_eq_canon _ _ _ (coverB_y c (grid0.coords t) _ _ _ _ _ _ _ _ _ _ _ _ _ _ _ _ _ _ h0 (xOf m c) (iblk m c 1 t) (iblk m c 2 t) (codesOf (xOf m c)) (xsOf (xOf m c)) (xqOf (xOf m c)) (scOf (xOf m c)))).trans (caseB_y c (grid0.coords t) _ _ _ _ _ _ _ _ _ _ _ _ _ _ _ _ _ _ h0 (xOf m c) (iblk m c 1 t) (iblk m c 2 t) (codesOf (xOf m c)) (xsOf (xOf m c)) (xqOf (xOf m c)) (scOf (xOf m c)))
    isplitl [H4]
    · iapply (leaves0_4_B m c t h0); iexact H4
    iapply (leaves0_5_B m c t h0); iexact H5

/-- The body table's row at point `t`'s slots is the body. -/
theorem defs₀_row (t : Fin cfg0.N) :
    defs₀ (F := Ideal) .tc cfg0.body (cfg0.bodyArgs t (cfg0.slots t)) = bodyAt0 t := by
  unfold defs₀; rw [Defs.onTc_tc]

/-- The body obligation, at every point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]

/-- The invariant after the last point gives the scratch back. -/
theorem hout (c : Dev nD) : (dats m 0 c).Φ (Fin.last cfg0.N) ⊢ Pipeline.ΦA spec0 c := by
  have ht : (Fin.last cfg0.N).val ≠ 0 := by rw [Fin.val_last]; have : cfg0.N = 8 := N_0; omega
  rw [show (dats m 0 c).Φ (Fin.last cfg0.N) = PhiS m c (Fin.last cfg0.N).val (Nat.le_of_lt_succ (Fin.last cfg0.N).isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexact HS1
    iexists _; iexact HS2
  iexact Hg

/-! ## The run -/

set_option backward.isDefEq.respectTransparency.types false in
/-- The whole program terminates with the pipeline's arrays at what the proof data say, everything else as the region
    found it, and every semaphore at zero. -/
theorem run_main_quiescent : θ_run defs (onTc (τ := τ) (main (F := Ideal))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The same without the semaphores. -/
theorem run_main : θ_run defs (onTc (τ := τ) (main (F := Ideal))) (s₀ m ρ) (Pipeline.FramePost cfgs (dats m) 0 (V m)) :=
  (θ_run defs _ _).mono (fun _ h => h.1) (run_main_quiescent m ρ)

/-- The program leaves its arguments as it found them and every semaphore at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.KernelIdeal.Hand

end
-- ==== Proof.KernelValue.lean ====
/-
  What the idealized kernel leaves in its three result arrays, index by index, as a function of the arrays its region
  reads.
-/
module

public import proofs.«01_k».proof.Proof.Run
public import Idealize.ShloMosaic.Lib.Pipeline.ValueKit
public import Idealize.ShloMosaic.Lib.Pointwise

@[expose] public section

set_option maxRecDepth 16384

noncomputable section

namespace Cert.KernelIdeal.Hand

open Cert.KernelIdeal Cert.KernelIdeal.Gen Cert.Power
open Idealize.ShloMosaic Idealize.ShloMosaic.TcCoe Idealize.ShloMosaic.Tactic

/-- The product as a function of whole arrays: the codes times the scaled weights, summed, times the row's scale. -/
def ySpec (X : Vec Ideal S1536x2816 .bf16) (W : Vec Ideal S2816x4096 .fp8e4m3) (S : Vec Ideal S88x4096 .i8) :
    Vec Ideal S1536x4096 .bf16 := fun y =>
  (∑ k : Fin 2816, codesOf X (ix2 (y 0) k)
      * (W (ix2 k (y 1)) * Ideal.ofBits .f32 (IntOp.shli .vector (BitVec.setWidth 32
          (S (ix2 (⟨k.val / 32, by have := k.isLt; omega⟩ : Fin 88) (y 1)))) 23#32)))
    * sOf (rowV fun k => X (ix2 (y 0) k))

theorem mulBlock_at (A : FVec Ideal S1536x512 .f32) (s : Vec Ideal S1536x1 .f32) (r : Fin 1536) (q : Fin 512) :
    k0_pay1 (F := Ideal) A s (ix2 r q : S1536x512.Idx) = A (ix2 r q) * s (ix2 r 0) := by
  unfold k0_pay1
  pointwise

theorem dot_at (A : Vec Ideal S1536x2816 .bf16) (B : Vec Ideal S2816x512 .bf16) (r : Fin 1536) (q : Fin 512) :
    k0_pay130 (F := Ideal) A B (ix2 r q : S1536x512.Idx) = ∑ k : Fin 2816, A (ix2 r k) * B (ix2 k q) := by
  unfold k0_pay130
  pointwise

theorem ldScale_at (sc : Vec Ideal S1536x128 .f32) (r : Fin 1536) :
    View.ld sc (Rect.unit (s := S1536x128) ![0, 0] S1536x1.size inb_S1536x128_S1536x1_0_0) (ix2 r 0 : S1536x1.Idx)
      = sc (ix2 r 0) := by
  pointwise

/-- A block of the product, at an index. -/
theorem yOf_at (x0 : Vec Ideal S1536x2816 .bf16) (x1 : Vec Ideal S2816x512 .fp8e4m3) (x2 : Vec Ideal S88x512 .i8)
    (r : Fin 1536) (q : Fin 512) :
    yOf x1 x2 (xqOf x0) (scOf x0) (ix2 r q : S1536x512.Idx)
      = (∑ k : Fin 2816, codesOf x0 (ix2 r k)
          * (x1 (ix2 k q) * Ideal.ofBits .f32 (IntOp.shli .vector (BitVec.setWidth 32
              (x2 (ix2 (⟨k.val / 32, by have := k.isLt; omega⟩ : Fin 88) q))) 23#32)))
        * sOf (rowV fun k => x0 (ix2 r k)) := by
  unfold yOf
  refine (mulBlock_at _ _ r q).trans ?_
  rw [dot_at, ldScale_at]
  rfl

variable (m : (ℓ : Loc nD τ sig) → Buf (Elt Ideal) ℓ) (ρ : Dev nD → PrngReg)

theorem idx0 : ∀ t : Fin cfg0.N, win0_0.index t = ![0, 0] := (by decide +kernel : ∀ t : Fin grid0.N, _)
theorem idx1 : ∀ t : Fin cfg0.N, win0_1.index t = ![0, t.val] := (by decide +kernel : ∀ t : Fin grid0.N, _)
theorem idx2 : ∀ t : Fin cfg0.N, win0_2.index t = ![0, t.val] := (by decide +kernel : ∀ t : Fin grid0.N, _)
theorem idx3 : ∀ t : Fin cfg0.N, win0_3.index t = ![0, t.val] := (by decide +kernel : ∀ t : Fin grid0.N, _)

/-- A column block of the weights is the weights' columns from 512 times the point on. -/
theorem iblk1_at (c : Dev nD) (t : Fin cfg0.N) (k : Fin 2816) (q : Fin 512) (h : 512 * t.val + q.val < 4096) :
    (iblk m c 1 t : Vec Ideal S2816x512 .fp8e4m3) (ix2 k q) = (V m c main_arg1 : Vec Ideal S2816x4096 .fp8e4m3) (ix2 k ⟨512 * t.val + q.val, h⟩) := by
  blk_ext [iblk, idx1 t]

/-- A column block of the weights' scales is the scales' columns from 512 times the point on. -/
theorem iblk2_at (c : Dev nD) (t : Fin cfg0.N) (b : Fin 88) (q : Fin 512) (h : 512 * t.val + q.val < 4096) :
    (iblk m c 2 t : Vec Ideal S88x512 .i8) (ix2 b q) = (V m c main_arg2 : Vec Ideal S88x4096 .i8) (ix2 b ⟨512 * t.val + q.val, h⟩) := by
  blk_ext [iblk, idx2 t]

/-- The product's array after the run. -/
theorem final_3 (c : Dev nD) :
    (dats m 0 c).arrAt 3 cfg0.N = ySpec (xOf m c) (V m c main_arg1) (V m c main_arg2) := by
  refine (dats m 0 c).arrAt_eq_of_covers 3 _ (by decide +kernel) fun t hf y => ?_
  blk_simp
  rw [after0_3]
  have ht : t.val < 8 := lt_of_lt_of_eq t.isLt (show cfg0.N = 8 from N_0)
  obtain ⟨r, q, rfl⟩ : ∃ (r : Fin 1536) (q : Fin 512), y = (ix2 r q : S1536x512.Idx) :=
    ⟨y 0, y 1, funext fun a => match a with | ⟨0, _⟩ => rfl | ⟨1, _⟩ => rfl⟩
  have hq : 512 * t.val + q.val < 4096 := by have := q.isLt; omega
  have he : (win0_3.blk t).view.emb (ix2 r q : S1536x512.Idx) = (ix2 r ⟨512 * t.val + q.val, hq⟩ : S1536x4096.Idx) := by
    blk_ext [idx3 t]
  rw [he]
  refine (yOf_at _ _ _ r q).trans ?_
  unfold ySpec
  simp only [iblk1_at m c t _ q hq, iblk2_at m c t _ q hq]
  rfl

/-- The codes' array after the run. -/
theorem final_4 (c : Dev nD) : (dats m 0 c).arrAt 4 cfg0.N = codesOf (xOf m c) := by
  refine (dats m 0 c).arrAt_eq_of_after_last 4 ⟨7, by decide⟩ (by decide +kernel) _ fun j => ?_
  exact congrFun (after0_4 m c ⟨7, by decide⟩) _

/-- The scales' array after the run. -/
theorem final_5 (c : Dev nD) : (dats m 0 c).arrAt 5 cfg0.N = xsOf (xOf m c) := by
  refine (dats m 0 c).arrAt_eq_of_after_last 5 ⟨7, by decide⟩ (by decide +kernel) _ fun j => ?_
  exact congrFun (after0_5 m c ⟨7, by decide⟩) _

/-- The region finds the reshaped activations. -/
theorem xOf_eq (c : Dev nD) : xOf m c = shapeCast S1536x2816 (m ((c : Thread nD τ).loc main_arg0)) shapeCasts_S4x384x2816_S1536x2816 := by
  funext y
  unfold xOf
  generalize (⟨0, _⟩ : Fin cfg0.N) = t
  blk_simp [iblk]
  entry_read
  blk_ext [idx0 t]

end Cert.KernelIdeal.Hand

end
-- ==== Proof.Exponent.lean ====
/-
  The power of two of a row, two ways: as the exponent field found bit by bit, and as the largest exponent whose power
  does not exceed the number. For a number from 0 to below `2 ^ 126` the two give the same scale and the same inverse.
  And the power of two that a byte of a weight scale denotes, two ways.
-/
module

public import proofs.«01_k».proof.Proof.Rows

@[expose] public section

set_option maxRecDepth 16384

noncomputable section

namespace Cert.Power

open Idealize.ShloMosaic Cert.KernelIdeal.Hand

/-- `2 ^ e`, with 0 below the exponent -126 and `+∞` above 127. -/
def ldexpE (e : EReal) : EReal :=
  if e < Ideal.ofBits .f32 0xC2FC0000#32 then Ideal.ofBits .f32 0x00000000#32
  else if Ideal.ofBits .f32 0x42FE0000#32 < e then Ideal.ofBits .f32 0x7F800000#32
  else Ideal.exp2 e

/-- The candidate exponent number `t`: `t - 126`. -/
def candE (t : Fin 254) : EReal := (((IntOp.addi (BitVec.ofNat 32 t.val) 4294967170#32).toInt : ℝ) : EReal)

/-- The exponent by definition: 0 for a subnormal number, else 1 more than the largest candidate whose power is at most `v`. -/
def refE (v : EReal) : EReal :=
  if v < Ideal.ofBits .f32 0x00800000#32 then Ideal.ofBits .f32 0x00000000#32
  else Finset.univ.fold max (Ideal.ofBits .f32 0xFF800000#32) fun t : Fin 254 =>
    if Ideal.exp2 (candE t) ≤ v then candE t + Ideal.ofBits .f32 0x3F800000#32 else Ideal.ofBits .f32 0xFF800000#32

theorem bits_neg126 : Ideal.ofBits .f32 0xC2FC0000#32 = ((-126 : ℝ) : EReal) := by
  simp [Ideal.ofBits, Ideal.ieee]
  norm_num
  rw [← EReal.coe_mul]
  norm_num

theorem bits_127 : Ideal.ofBits .f32 0x42FE0000#32 = ((127 : ℝ) : EReal) := by
  simp [Ideal.ofBits, Ideal.ieee]
  norm_num
  rw [← EReal.coe_mul]
  norm_num

theorem bits_zero : Ideal.ofBits .f32 0x00000000#32 = 0 := by
  simp [Ideal.ofBits, Ideal.ieee]

theorem bits_one : Ideal.ofBits .f32 0x3F800000#32 = ((1 : ℝ) : EReal) := by
  simp [Ideal.ofBits, Ideal.ieee]
  norm_num
  rw [← EReal.coe_mul]
  norm_num

theorem bits_top : Ideal.ofBits .f32 0x7F800000#32 = ⊤ := by
  simp [Ideal.ofBits, Ideal.ieee]

theorem bits_bot : Ideal.ofBits .f32 0xFF800000#32 = ⊥ := by
  simp [Ideal.ofBits, Ideal.ieee]

theorem bits_min : Ideal.ofBits .f32 0x00800000#32 = pw 1 :=
  ieee_of_field 0x00800000#32 1 (by norm_num) (by decide) (by decide) (by decide)

/-- `2 ^ e` by its exponent field, for every integer exponent a byte of scale can hold. -/
theorem ldexpE_int (n : ℕ) (h : n < 256) : ldexpE ((((n : ℤ) - 127 : ℤ) : ℝ) : EReal) = pw n := by
  unfold ldexpE
  rw [bits_neg126, bits_127, bits_zero, bits_top]
  simp only [EReal.coe_lt_coe_iff]
  by_cases h0 : n = 0
  · subst h0; rw [if_pos (by norm_num), pw_zero]
  · have h1 : ¬ ((((n : ℤ) - 127 : ℤ) : ℝ) < -126) := by
      rw [not_lt]; exact_mod_cast (by omega : (-126 : ℤ) ≤ (n : ℤ) - 127)
    rw [if_neg h1]
    by_cases h255 : n = 255
    · subst h255; rw [if_pos (by norm_num), pw_top le_rfl]
    · have h2 : ¬ ((127 : ℝ) < (((n : ℤ) - 127 : ℤ) : ℝ)) := by
        rw [not_lt]; exact_mod_cast (by omega : (n : ℤ) - 127 ≤ 127)
      rw [if_neg h2, exp2_int, pw_mid h0 (by omega)]

theorem cand_toInt : ∀ t : Fin 254, (IntOp.addi (BitVec.ofNat 32 t.val) 4294967170#32).toInt = (t.val : ℤ) - 126 := by
  decide +kernel

theorem exp2_cand (t : Fin 254) : Ideal.exp2 (candE t) = pw (t.val + 1) := by
  have := t.isLt
  unfold candE
  rw [cand_toInt, exp2_int, pw_mid (by omega) (by omega)]
  congr 2; push_cast; ring

/-- The exponent by definition, of a number whose field is `n`. -/
theorem refE_of_field (v : EReal) (n : ℕ) (hn : n < 255) (hlo : pw n ≤ v) (hhi : v < pw (n + 1)) :
    refE v = if n = 0 then 0 else ((((n : ℤ) - 126 : ℤ) : ℝ) : EReal) := by
  unfold refE
  rw [bits_min, bits_zero, bits_bot, bits_one]
  by_cases h0 : n = 0
  · subst h0; rw [if_pos hhi, if_pos rfl]
  rw [if_neg h0, if_neg (not_lt.2 ((pw_le (by omega)).trans hlo))]
  refine le_antisymm ?_ ?_
  · refine Finset.fold_max_le _ |>.2 ⟨bot_le, fun t _ => ?_⟩
    by_cases h : Ideal.exp2 (candE t) ≤ v
    · rw [if_pos h]
      rw [exp2_cand] at h
      have ht : t.val + 1 ≤ n := by
        by_contra hc
        exact absurd (h.trans_lt hhi) (not_lt.2 (pw_le (by omega)))
      unfold candE
      rw [cand_toInt, ← EReal.coe_add, EReal.coe_le_coe_iff]
      exact_mod_cast (by omega : (t.val : ℤ) - 126 + 1 ≤ (n : ℤ) - 126)
    · rw [if_neg h]; exact bot_le
  · refine Finset.le_fold_max _ |>.2 (Or.inr ⟨⟨n - 1, by omega⟩, Finset.mem_univ _, ?_⟩)
    have h : Ideal.exp2 (candE ⟨n - 1, by omega⟩) ≤ v := by
      rw [exp2_cand]; simpa [Nat.sub_add_cancel (Nat.one_le_iff_ne_zero.2 h0)] using hlo
    rw [if_pos h]
    unfold candE
    rw [cand_toInt, ← EReal.coe_add, EReal.coe_le_coe_iff]
    exact_mod_cast (by omega : (n : ℤ) - 126 ≤ ((n - 1 : ℕ) : ℤ) - 126 + 1)

theorem eOf_words : ∀ n : Fin 253,
    IntOp.addi 127#32 (Scalar.select (IntOp.ori (IntOp.cmpi .eq (BitVec.ofNat 32 n.val) 0#32) (IntOp.cmpi .eq (BitVec.ofNat 32 n.val) 255#32))
      0#32 (IntOp.subi (BitVec.ofNat 32 n.val) 126#32)) = BitVec.ofNat 32 (if n.val = 0 then 127 else n.val + 1)
    ∧ IntOp.subi 127#32 (Scalar.select (IntOp.ori (IntOp.cmpi .eq (BitVec.ofNat 32 n.val) 0#32) (IntOp.cmpi .eq (BitVec.ofNat 32 n.val) 255#32))
      0#32 (IntOp.subi (BitVec.ofNat 32 n.val) 126#32)) = BitVec.ofNat 32 (if n.val = 0 then 127 else 253 - n.val) := by
  decide +kernel

theorem field_lt (v : EReal) (h0 : 0 ≤ v) (h : v < pw 253) :
    ∃ n, field v = BitVec.ofNat 32 n ∧ n < 253 ∧ pw n ≤ v ∧ v < pw (n + 1) := by
  obtain ⟨n, e, _, lo, hi⟩ := field_spec v h0 (h.trans_le le_top)
  refine ⟨n, e, ?_, lo, hi⟩
  by_contra hc
  exact absurd (lo.trans_lt h) (not_lt.2 (pw_le (by omega)))

/-- The two scales agree. -/
theorem sOf_eq (v : EReal) (h0 : 0 ≤ v) (h : v < pw 253) : sOf v = ldexpE (refE v) := by
  obtain ⟨n, e, ln, lo, hi⟩ := field_lt v h0 h
  unfold sOf eOf
  rw [e, (eOf_words ⟨n, ln⟩).1, ofBits_shli _ (by simp only; split <;> omega), refE_of_field v n (by omega) lo hi]
  simp only
  by_cases hn : n = 0
  · rw [if_pos hn, if_pos hn]; simpa using (ldexpE_int 127 (by norm_num)).symm
  · rw [if_neg hn, if_neg hn, ← ldexpE_int (n + 1) (by omega)]
    congr 3; push_cast; ring

/-- The two inverses agree. -/
theorem iOf_eq (v : EReal) (h0 : 0 ≤ v) (h : v < pw 253) :
    iOf v = ldexpE (Ideal.ofBits .f32 0x00000000#32 - refE v) := by
  obtain ⟨n, e, ln, lo, hi⟩ := field_lt v h0 h
  unfold iOf eOf
  rw [e, (eOf_words ⟨n, ln⟩).2, ofBits_shli _ (by simp only; split <;> omega), refE_of_field v n (by omega) lo hi, bits_zero]
  simp only
  by_cases hn : n = 0
  · rw [if_pos hn, if_pos hn]; simpa using (ldexpE_int 127 (by norm_num)).symm
  · rw [if_neg hn, if_neg hn, ← ldexpE_int (253 - n) (by omega), ← EReal.coe_zero, ← EReal.coe_sub]
    congr 3; push_cast [Nat.cast_sub (by omega : n ≤ 253)]; ring

theorem wbyte_int : ∀ s : BitVec 8, (IntOp.subi (s.setWidth 32) 127#32).toInt = (s.toNat : ℤ) - 127 := by
  decide +kernel

/-- What a byte of weight scale denotes: its word shifted into the exponent, and the power by definition. -/
theorem wbyte (s : BitVec 8) :
    Ideal.ofBits .f32 (IntOp.shli .vector (s.setWidth 32) 23#32)
      = ldexpE ((((IntOp.subi (s.setWidth 32) 127#32).toInt : ℤ) : ℝ) : EReal) := by
  have h : s.setWidth 32 = BitVec.ofNat 32 s.toNat := by
    rw [← BitVec.toNat_inj]; simp
  rw [wbyte_int, ldexpE_int _ s.isLt, h, ofBits_shli _ s.isLt]

end Cert.Power

end
-- ==== Proof.Reference.lean ====
/-
  The reference's payloads, read at one index of their results: the exponent, the scale and the codes of a row, and the
  entry of the matrix product.
-/
module

public import proofs.«01_k».proof.Proof.Gen.ReferenceIdeal.Frame
public import proofs.«01_k».proof.Proof.Exponent
public import Idealize.ShloMosaic.Lib.Pointwise

@[expose] public section

set_option maxRecDepth 16384

noncomputable section

namespace Cert.ReferenceIdeal.Hand

open Cert.ReferenceIdeal Cert.ReferenceIdeal.Gen Cert.Power
open Cert.KernelIdeal.Hand (rowV clip)
open Idealize.ShloMosaic Idealize.ShloMosaic.TcCoe Idealize.ShloMosaic.Tactic

/-- The widened activations are the activations. -/
theorem pay1_at (X : Vec Ideal S1536x2816 .bf16) (r : Fin 1536) (k : Fin 2816) :
    k0_pay1 (F := Ideal) X (ix2 r k : S1536x2816.Idx) = X (ix2 r k) := by
  unfold k0_pay1
  pointwise

theorem lift_row (r : Fin 1536) (k : Fin 2816) :
    reduces_S1536x2816_S1536.lift (ix1 r : S1536.Idx) k = (ix2 r k : S1536x2816.Idx) := by
  funext a
  match a with
  | ⟨0, _⟩ => rfl
  | ⟨1, _⟩ => rfl

/-- A row's maximum is the maximum over the row. -/
theorem red_at (w : FVec Ideal S1536x2816 .f32) (r : Fin 1536) :
    multiReduction .maximumf [1] S1536 w 0xFF800000#32 reduces_S1536x2816_S1536 (.inl rfl) rfl (ix1 r)
      = Finset.univ.fold max (Ideal.ofBits .f32 0xFF800000#32) fun k : Fin 2816 => w (ix2 r k) := by
  refine (Ideal.multiReduction_maximumf_single w _ _ _ _ (ix1 r)).trans ?_
  exact congrArg (fun f => Finset.univ.fold max (Ideal.ofBits .f32 0xFF800000#32) f)
    (funext fun k => congrArg w (lift_row r k))

/-- A row's maximum, as a column. -/
theorem redCol_at (u : FVec Ideal S1536 .f32) (r : Fin 1536) :
    shapeCast S1536x1 u shapeCasts_S1536_S1536x1 (ix2 r 0 : S1536x1.Idx) = u (ix1 r) := by
  pointwise

/-- The column of row maxima, times the constant nearest 1/448. -/
def vCol (w : FVec Ideal S1536x2816 .f32) : FVec Ideal S1536x1 .f32 :=
  mulf (shapeCast S1536x1 (multiReduction .maximumf [1] S1536 w 0xFF800000#32 reduces_S1536x2816_S1536 (.inl rfl) rfl)
    shapeCasts_S1536_S1536x1) (broadcast S1536x1 (Scalar.ofBits .f32 0x3B124925#32))

theorem mul_at (u : FVec Ideal S1536x1 .f32) (j : S1536x1.Idx) :
    mulf u (broadcast S1536x1 (Scalar.ofBits .f32 0x3B124925#32)) j = u j * Ideal.ofBits .f32 0x3B124925#32 := rfl

theorem vCol_gen (w : FVec Ideal S1536x2816 .f32) (r : Fin 1536) :
    vCol w (ix2 r 0 : S1536x1.Idx)
      = (Finset.univ.fold max (Ideal.ofBits .f32 0xFF800000#32) fun k : Fin 2816 => w (ix2 r k))
        * Ideal.ofBits .f32 0x3B124925#32 := by
  unfold vCol
  exact (mul_at _ _).trans
    (congrArg (fun z => z * Ideal.ofBits .f32 0x3B124925#32) ((redCol_at _ r).trans (red_at w r)))

theorem absPay1_at (X : Vec Ideal S1536x2816 .bf16) (r : Fin 1536) (k : Fin 2816) :
    absf (k0_pay1 (F := Ideal) X) (ix2 r k : S1536x2816.Idx) = max (X (ix2 r k)) (-(X (ix2 r k))) := by
  rw [← pay1_at X r k]
  rfl

theorem vCol_at (X : Vec Ideal S1536x2816 .bf16) (r : Fin 1536) :
    vCol (absf (k0_pay1 (F := Ideal) X)) (ix2 r 0 : S1536x1.Idx) = rowV fun k => X (ix2 r k) := by
  refine (vCol_gen _ r).trans ?_
  unfold rowV
  rw [bits_bot]
  refine congrArg (fun z => z * Ideal.ofBits .f32 0x3B124925#32) ?_
  exact congrArg (fun f => Finset.univ.fold max (⊥ : EReal) f) (funext fun k => absPay1_at X r k)

/-- The table of candidates, one row per row of the activations. -/
def cand (v : FVec Ideal S1536x1 .f32) : FVec Ideal S1536x254 .f32 :=
  select (cmpf .oge (broadcastTo S1536x254 v broadcasts_S1536x1_S1536x254)
      (exp2 (sitofp .f32 (addi (iota .tc S1536x254 32 [1] iota_S1536x254_d1_w32) (broadcast S1536x254 4294967170#32)))))
    (addf (sitofp .f32 (addi (iota .tc S1536x254 32 [1] iota_S1536x254_d1_w32) (broadcast S1536x254 4294967170#32)))
      (broadcast S1536x254 (Scalar.ofBits .f32 0x3F800000#32)))
    (broadcast S1536x254 (Scalar.ofBits .f32 0xFF800000#32))

theorem cand_at (v : FVec Ideal S1536x1 .f32) (r : Fin 1536) (t : Fin 254) :
    cand v (ix2 r t : S1536x254.Idx) = if Ideal.exp2 (candE t) ≤ v (ix2 r 0) then candE t + Ideal.ofBits .f32 0x3F800000#32
      else Ideal.ofBits .f32 0xFF800000#32 := by
  unfold cand
  pointwise
  rfl

/-- The column of exponents from the column of numbers and the table. -/
def eCol (v : FVec Ideal S1536x1 .f32) (w : FVec Ideal S1536x254 .f32) : FVec Ideal S1536x1 .f32 :=
  select (cmpf .olt v (broadcast S1536x1 (Scalar.ofBits .f32 0x00800000#32)))
    (broadcast S1536x1 (Scalar.ofBits .f32 0x00000000#32))
    (shapeCast S1536x1 (multiReduction .maximumf [1] S1536 w 0xFF800000#32 reduces_S1536x254_S1536 (.inl rfl) rfl)
      shapeCasts_S1536_S1536x1)

theorem eCol_at (v : FVec Ideal S1536x1 .f32) (w : FVec Ideal S1536x254 .f32) (r : Fin 1536) :
    eCol v w (ix2 r 0 : S1536x1.Idx) = if v (ix2 r 0) < Ideal.ofBits .f32 0x00800000#32 then Ideal.ofBits .f32 0x00000000#32
      else Finset.univ.fold max (Ideal.ofBits .f32 0xFF800000#32) fun t : Fin 254 => w (ix2 r t) := by
  unfold eCol
  pointwise
  try rfl

/-- The exponent of a row. -/
theorem pay2_at (X : Vec Ideal S1536x2816 .bf16) (r : Fin 1536) :
    k0_pay2 (F := Ideal) X (ix2 r 0 : S1536x1.Idx) = refE (rowV fun k => X (ix2 r k)) := by
  have h : k0_pay2 (F := Ideal) X = eCol (vCol (absf (k0_pay1 (F := Ideal) X))) (cand (vCol (absf (k0_pay1 (F := Ideal) X)))) := rfl
  rw [h, eCol_at]
  simp only [cand_at, vCol_at]
  rfl

/-- The power of two of a number, as the reference writes it. -/
theorem ldexp_words (e : EReal) :
    Scalar.select (Ideal.cmp .olt e (Ideal.ofBits .f32 0xC2FC0000#32)) (Ideal.ofBits .f32 0x00000000#32)
      (Scalar.select (Ideal.cmp .ogt e (Ideal.ofBits .f32 0x42FE0000#32)) (Ideal.ofBits .f32 0x7F800000#32) (Ideal.exp2 e))
      = ldexpE e := by
  unfold ldexpE
  by_cases h1 : e < Ideal.ofBits .f32 0xC2FC0000#32 <;> by_cases h2 : Ideal.ofBits .f32 0x42FE0000#32 < e <;>
    simp [Ideal.cmp, Scalar.select, h1, h2]

/-- A column's powers of two. -/
def ldexpCol (w : FVec Ideal S1536x1 .f32) : FVec Ideal S1536x1 .f32 :=
  select (cmpf .olt w (broadcast S1536x1 (Scalar.ofBits .f32 0xC2FC0000#32)))
    (broadcast S1536x1 (Scalar.ofBits .f32 0x00000000#32))
    (select (cmpf .ogt w (broadcast S1536x1 (Scalar.ofBits .f32 0x42FE0000#32)))
      (broadcast S1536x1 (Scalar.ofBits .f32 0x7F800000#32)) (exp2 w))

theorem ldexpCol_at (w : FVec Ideal S1536x1 .f32) (j : S1536x1.Idx) : ldexpCol w j = ldexpE (w j) := by
  rw [← ldexp_words]
  rfl

/-- A column negated, as the reference does it. -/
def negCol (w : FVec Ideal S1536x1 .f32) : FVec Ideal S1536x1 .f32 :=
  subf (broadcast S1536x1 (Scalar.ofBits .f32 0x00000000#32)) w

theorem negCol_at (w : FVec Ideal S1536x1 .f32) (j : S1536x1.Idx) :
    negCol w j = Ideal.ofBits .f32 0x00000000#32 - w j := rfl

theorem invCol_eq (w : FVec Ideal S1536x1 .f32) (j : S1536x1.Idx) :
    Scalar.select (cmpf .olt w (broadcast S1536x1 (Scalar.ofBits .f32 0xC2FC0000#32)) j) (Ideal.ofBits .f32 0x00000000#32)
      (Scalar.select (cmpf .ogt w (broadcast S1536x1 (Scalar.ofBits .f32 0x42FE0000#32)) j)
        ((broadcast S1536x1 (Scalar.ofBits (F := Ideal) .f32 0x7F800000#32) : FVec Ideal S1536x1 .f32) j) (exp2 w j))
      = ldexpCol w j := rfl

/-- The scale of a row. -/
theorem pay3_at (X : Vec Ideal S1536x2816 .bf16) (r : Fin 1536) :
    k0_pay3 (F := Ideal) X (ix2 r 0 : S1536x1.Idx) = ldexpE (refE (rowV fun k => X (ix2 r k))) := by
  have h : k0_pay3 (F := Ideal) X = ldexpCol (k0_pay2 (F := Ideal) X) := rfl
  exact (congrFun h _).trans ((ldexpCol_at _ _).trans (congrArg ldexpE (pay2_at X r)))

/-- The inverse scale of a row. -/
theorem inv_at (X : Vec Ideal S1536x2816 .bf16) (r : Fin 1536) :
    Scalar.select (k0_pay5 (F := Ideal) X (ix2 r 0 : S1536x1.Idx)) (Ideal.ofBits .f32 0x00000000#32)
      (Scalar.select (k0_pay6 (F := Ideal) X (ix2 r 0 : S1536x1.Idx)) (k0_pay8 (F := Ideal) (ix2 r 0 : S1536x1.Idx))
        (k0_pay7 (F := Ideal) X (ix2 r 0 : S1536x1.Idx)))
      = ldexpE (Ideal.ofBits .f32 0x00000000#32 - refE (rowV fun k => X (ix2 r k))) := by
  have h4 : k0_pay4 (F := Ideal) X = negCol (k0_pay2 (F := Ideal) X) := rfl
  unfold k0_pay5 k0_pay6 k0_pay7 k0_pay8
  rw [h4]
  refine (invCol_eq _ _).trans ((ldexpCol_at _ _).trans (congrArg ldexpE ((negCol_at _ _).trans ?_)))
  exact congrArg (fun z => Ideal.ofBits .f32 0x00000000#32 - z) (pay2_at X r)

/-- The clipped product of an entry and the inverse scale of its row. -/
theorem pay9_at (X : FVec Ideal S1536x2816 .f32) (a b : IVec S1536x1 1) (e d : FVec Ideal S1536x1 .f32)
    (r : Fin 1536) (k : Fin 2816) :
    k0_pay9 (F := Ideal) X a b e d (ix2 r k : S1536x2816.Idx)
      = clip (X (ix2 r k) * Scalar.select (a (ix2 r 0)) (Ideal.ofBits .f32 0x00000000#32)
          (Scalar.select (b (ix2 r 0)) (d (ix2 r 0)) (e (ix2 r 0)))) := by
  unfold k0_pay9 clip
  pointwise
  try rfl

/-- An entry of the matrix product, scaled by its row's scale. -/
theorem pay10_at (X : FVec Ideal S1536x2816 .f32) (s : FVec Ideal S1536x1 .f32) (a b : IVec S1536x1 1)
    (e d : FVec Ideal S1536x1 .f32) (S : Vec Ideal S88x4096 .i8) (W : Vec Ideal S2816x4096 .fp8e4m3)
    (r : Fin 1536) (q : Fin 4096) :
    k0_pay10 (F := Ideal) X s a b e d S W (ix2 r q : S1536x4096.Idx)
      = (∑ k : Fin 2816, k0_pay9 (F := Ideal) X a b e d (ix2 r k : S1536x2816.Idx)
          * (W (ix2 k q) * ldexpE (((IntOp.subi (BitVec.setWidth 32
              (S (ix2 (⟨k.val / 32, by have := k.isLt; omega⟩ : Fin 88) q))) 127#32).toInt : ℝ) : EReal)))
        * s (ix2 r 0) := by
  unfold k0_pay10 ldexpE
  generalize k0_pay9 (F := Ideal) X a b e d = w
  pointwise
  try rfl

/-- The scales, 128 rows to a block. -/
theorem pay11_at (s : FVec Ideal S1536x1 .f32) (b : Fin 12) (l : Fin 128) :
    k0_pay11 (F := Ideal) s (ix3 b 0 l : S12x1x128.Idx)
      = s (ix2 (⟨128 * b.val + l.val, by have := b.isLt; have := l.isLt; omega⟩ : Fin 1536) 0) := by
  unfold k0_pay11
  pointwise
  refine congrArg s (congrArg (fun z : Fin 1536 => (ix2 z 0 : S1536x1.Idx)) (Fin.ext ?_))
  simp only
  omega

end Cert.ReferenceIdeal.Hand

end
-- ==== Proof.RefValue.lean ====
/-
  The reference's three arrays after its run, as the body's payloads of the whole arguments.
-/
module

public import proofs.«01_k».proof.Proof.Reference
public import Idealize.ShloMosaic.Lib.Pipeline.ValueKit

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic

/-- The codes, from the activations. -/
def rCodes (X : Vec Ideal S1536x2816 .bf16) : Vec Ideal S1536x2816 .fp8e4m3 :=
  k0_pay9 (k0_pay1 X) (k0_pay5 X) (k0_pay6 X) (k0_pay7 X) (k0_pay8 (F := Ideal))

/-- The scales, from the activations. -/
def rScales (X : Vec Ideal S1536x2816 .bf16) : Vec Ideal S12x1x128 .f32 := k0_pay11 (k0_pay3 X)

/-- The product, from the three arguments. -/
def rY (X : Vec Ideal S1536x2816 .bf16) (W : Vec Ideal S2816x4096 .fp8e4m3) (S : Vec Ideal S88x4096 .i8) : Vec Ideal S1536x4096 .bf16 :=
  k0_pay10 (k0_pay1 X) (k0_pay3 X) (k0_pay5 X) (k0_pay6 X) (k0_pay7 X) (k0_pay8 (F := Ideal)) S W

theorem out3_eq (X : Vec Ideal S1536x2816 .bf16) (W : Vec Ideal S2816x4096 .fp8e4m3) (S : Vec Ideal S88x4096 .i8) :
    out0_3 X W S = rY X W S := by
  unfold out0_3 k0_pay12 k0_pay13 k0_pay14 k0_pay15 k0_pay16 k0_pay17 rY
  rw [View.canon_cons_unit_lit _ _ _ (by decide), View.ld_unit_lit _ X (by decide), View.ld_unit_lit _ W (by decide),
    View.ld_unit_lit _ S (by decide)]

theorem out4_eq (X : Vec Ideal S1536x2816 .bf16) (W : Vec Ideal S2816x4096 .fp8e4m3) (S : Vec Ideal S88x4096 .i8) :
    out0_4 X W S = rCodes X := by
  unfold out0_4 k0_pay12 k0_pay14 k0_pay15 k0_pay16 k0_pay17 rCodes
  rw [View.canon_cons_unit_lit _ _ _ (by decide), View.ld_unit_lit _ X (by decide)]

theorem out5_eq (X : Vec Ideal S1536x2816 .bf16) (W : Vec Ideal S2816x4096 .fp8e4m3) (S : Vec Ideal S88x4096 .i8) :
    out0_5 X W S = rScales X := by
  unfold out0_5 k0_pay13 rScales
  rw [View.canon_cons_unit_lit _ _ _ (by decide), View.ld_unit_lit _ X (by decide)]

variable (m : (ℓ : Loc nD τ sig) → Buf (Elt Ideal) ℓ)

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0, 0] := (by decide +kernel : ∀ t : Fin grid0.N, _)

/-- The activations, reshaped to a matrix. -/
def rX (c : Dev nD) : Vec Ideal S1536x2816 .bf16 :=
  shapeCast S1536x2816 (m ((c : Thread nD τ).loc main_arg0)) shapeCasts_S4x384x2816_S1536x2816

/-- The one point's block of the activations is the reshaped activations, -/
theorem iblk0_eq (c : Dev nD) (t : Fin cfg0.N) : iblk m c 0 t = rX m c := by
  funext y
  unfold rX
  blk_simp [iblk]
  entry_read
  blk_ext [idx0 t]

/-- its block of the weights all of them, -/
theorem iblk1_eq (c : Dev nD) (t : Fin cfg0.N) : iblk m c 1 t = m ((c : Thread nD τ).loc main_arg1) := by
  refine Eq.trans ?_ (V_main_arg1 m c)
  funext y
  blk_ext [iblk, idx1 t]

/-- and its block of their scales all of them. -/
theorem iblk2_eq (c : Dev nD) (t : Fin cfg0.N) : iblk m c 2 t = m ((c : Thread nD τ).loc main_arg2) := by
  refine Eq.trans ?_ (V_main_arg2 m c)
  funext y
  blk_ext [iblk, idx2 t]

/-- The product's array after the run. -/
theorem final_3 (c : Dev nD) : (dats m 0 c).arrAt 3 cfg0.N
    = rY (rX m c) (m ((c : Thread nD τ).loc main_arg1)) (m ((c : Thread nD τ).loc main_arg2)) := by
  refine (dats m 0 c).arrAt_eq_of_covers 3 _ (by decide +kernel) fun t hf y => ?_
  blk_simp
  rw [after0_3, out3_eq, iblk0_eq, iblk1_eq, iblk2_eq]
  generalize rY (rX m c) (m ((c : Thread nD τ).loc main_arg1)) (m ((c : Thread nD τ).loc main_arg2)) = G
  blk_ext [idx3 t]

/-- The codes' array after the run. -/
theorem final_4 (c : Dev nD) : (dats m 0 c).arrAt 4 cfg0.N = rCodes (rX m c) := by
  refine (dats m 0 c).arrAt_eq_of_covers 4 _ (by decide +kernel) fun t hf y => ?_
  blk_simp
  rw [after0_4, out4_eq, iblk0_eq]
  generalize rCodes (rX m c) = G
  blk_ext [idx4 t]

/-- The scales' array after the run. -/
theorem final_5 (c : Dev nD) : (dats m 0 c).arrAt 5 cfg0.N = rScales (rX m c) := by
  refine (dats m 0 c).arrAt_eq_of_covers 5 _ (by decide +kernel) fun t hf y => ?_
  blk_simp
  rw [after0_5, out5_eq, iblk0_eq]
  generalize rScales (rX m c) = G
  blk_ext [idx5 t]

end Cert.ReferenceIdeal.Hand

end
-- ==== Proof.Finite.lean ====
/-
  What the precondition gives: every activation is at most the largest finite bf16 number in magnitude, so a row's
  largest magnitude over 448 lies from 0 to below `2 ^ 126`.
-/
module

public import proofs.«01_k».proof.Proof.Exponent
public import proofs.«01_k».proof.Proof.Gen.Pre_finite
public import Idealize.ShloMosaic.Lib.ReduceAll

@[expose] public section

set_option maxRecDepth 16384

noncomputable section

namespace Cert.Power

open Idealize.ShloMosaic Cert.KernelIdeal.Hand

theorem bits_max : Ideal.ofBits .bf16 0x7F7F#16 = ((255 * 2 ^ 120 : ℝ) : EReal) := by
  simp [Ideal.ofBits, Ideal.ieee]

theorem bits_inv448 : Ideal.ofBits .f32 0x3B124925#32 = ((9586981 / 2 ^ 32 : ℝ) : EReal) := by
  simp [Ideal.ofBits, Ideal.ieee]
  norm_num
  rw [← EReal.coe_mul]
  norm_num

/-- A row of numbers of at most the largest finite magnitude. -/
theorem rowV_bound (f : Fin 2816 → EReal) (h : ∀ k, max (f k) (-(f k)) ≤ Ideal.ofBits .bf16 0x7F7F#16) :
    0 ≤ rowV f ∧ rowV f < pw 253 := by
  unfold rowV
  rw [bits_inv448, pw_mid (by norm_num) (by norm_num)]
  rw [bits_max] at h
  have hle : (Finset.univ.fold max (⊥ : EReal) fun k => max (f k) (-(f k))) ≤ ((255 * 2 ^ 120 : ℝ) : EReal) :=
    Finset.fold_max_le _ |>.2 ⟨bot_le, fun k _ => h k⟩
  have hge : (0 : EReal) ≤ Finset.univ.fold max (⊥ : EReal) fun k => max (f k) (-(f k)) := by
    refine Finset.le_fold_max _ |>.2 (Or.inr ⟨0, Finset.mem_univ _, ?_⟩)
    rcases le_total 0 (f 0) with h0 | h0
    · exact h0.trans (le_max_left _ _)
    · exact (EReal.neg_nonneg.2 h0).trans (le_max_right _ _)
  revert hle hge
  generalize (Finset.univ.fold max (⊥ : EReal) fun k => max (f k) (-(f k))) = M
  intro hle hge
  induction M with
  | bot => exact absurd hge (by simp)
  | top => exact absurd hle (not_le.2 (EReal.coe_lt_top _))
  | coe M =>
    rw [EReal.coe_le_coe_iff] at hle
    have hge' : 0 ≤ M := by exact_mod_cast hge
    rw [← EReal.coe_mul]
    refine ⟨by exact_mod_cast (by positivity), ?_⟩
    rw [EReal.coe_lt_coe_iff]
    have : M * (9586981 / 2 ^ 32) ≤ 255 * 2 ^ 120 * (9586981 / 2 ^ 32) := mul_le_mul_of_nonneg_right hle (by norm_num)
    refine this.trans_lt ?_
    have e : ((2 : ℝ) ^ ((253 : ℕ) - 127 : ℤ)) = 2 ^ (126 : ℕ) := by
      rw [← zpow_natCast]; norm_num
    rw [e]
    norm_num

/-- The precondition, at an entry. -/
theorem finite_le (x : FVec Ideal Cert.Pre_finite.S4x384x2816 .bf16) (w : FVec Ideal Cert.Pre_finite.S2816x4096 .fp8e4m3)
    (s : IVec Cert.Pre_finite.S88x4096 8) (h : Cert.Pre_finite.fn (F := Ideal) x w s = fun _ => 1#1)
    (i : Cert.Pre_finite.S4x384x2816.Idx) : max (x i) (-(x i)) ≤ Ideal.ofBits .bf16 0x7F7F#16 := by
  have e := congrFun h (fun a => a.elim0)
  dsimp only [Cert.Pre_finite.fn] at e
  have e1 := Host.reduce_andi_all _ _ _ _ _ e i
  have e2 : Ideal.cmp .ole (max (x i) (-(x i))) (Ideal.ofBits .bf16 0x7F7F#16) = 1#1 := e1
  by_contra hc
  simp [Ideal.cmp, hc] at e2

end Cert.Power

end
-- ==== Proof.Equal.lean ====
/-
  The kernel's arrays and the reference's are the same functions of the arguments, where every activation is at most the
  largest finite bf16 number in magnitude.
-/
module

public import proofs.«01_k».proof.Proof.KernelValue
public import proofs.«01_k».proof.Proof.RefValue
public import proofs.«01_k».proof.Proof.Finite

@[expose] public section

set_option maxRecDepth 16384

noncomputable section

namespace Cert.Equal

open Cert.KernelIdeal Cert.KernelIdeal.Hand Cert.Power
open Cert.ReferenceIdeal.Hand (rCodes rScales rY)
open Idealize.ShloMosaic Idealize.ShloMosaic.TcCoe Idealize.ShloMosaic.Tactic

/-- Every row's largest magnitude over 448 lies where the kernel's exponent and the reference's agree. -/
def Bounded (X : Vec Ideal S1536x2816 .bf16) : Prop :=
  ∀ r : Fin 1536, 0 ≤ rowV (fun k => X (ix2 r k)) ∧ rowV (fun k => X (ix2 r k)) < pw 253

variable (X : Vec Ideal S1536x2816 .bf16) (hX : Bounded X)

include hX

/-- The codes agree at each entry. -/
theorem codes_at (r : Fin 1536) (k : Fin 2816) : rCodes X (ix2 r k : S1536x2816.Idx) = codesOf X (ix2 r k : S1536x2816.Idx) := by
  unfold rCodes
  refine (Cert.ReferenceIdeal.Hand.pay9_at _ _ _ _ _ r k).trans ?_
  rw [Cert.ReferenceIdeal.Hand.inv_at, Cert.ReferenceIdeal.Hand.pay1_at, ← iOf_eq _ (hX r).1 (hX r).2]
  rfl

/-- The codes agree. -/
theorem codes_eq : rCodes X = codesOf X := by
  funext y
  rw [show y = (ix2 (y 0) (y 1) : S1536x2816.Idx) from eq_ix2 y]
  exact codes_at X hX _ _

/-- The scales agree. -/
theorem scales_eq : rScales X = xsOf X := by
  funext y
  obtain ⟨b, l, rfl⟩ : ∃ (b : Fin 12) (l : Fin 128), y = (ix3 b 0 l : S12x1x128.Idx) := ⟨y 0, y 2, (eq_ix3 y).trans (by
    have e1 : y 1 = (0 : Fin 1) := Subsingleton.elim (α := Fin 1) _ _
    rw [e1])⟩
  unfold rScales
  refine (Cert.ReferenceIdeal.Hand.pay11_at _ b l).trans ?_
  rw [Cert.ReferenceIdeal.Hand.pay3_at, ← sOf_eq _ (hX _).1 (hX _).2]
  rfl

/-- The products agree: the same codes times the same weights, summed, times the same scale. -/
theorem y_eq (W : Vec Ideal S2816x4096 .fp8e4m3) (S : Vec Ideal S88x4096 .i8) : rY X W S = ySpec X W S := by
  funext y
  obtain ⟨r, q, rfl⟩ : ∃ (r : Fin 1536) (q : Fin 4096), y = (ix2 r q : S1536x4096.Idx) := ⟨y 0, y 1, eq_ix2 y⟩
  unfold rY
  refine (Cert.ReferenceIdeal.Hand.pay10_at _ _ _ _ _ _ _ _ r q).trans ?_
  rw [Cert.ReferenceIdeal.Hand.pay3_at, ← sOf_eq _ (hX r).1 (hX r).2]
  unfold ySpec
  refine congrArg (fun z : EReal => z * sOf (rowV fun k => X (ix2 r k))) (Finset.sum_congr rfl fun k _ => ?_)
  rw [← wbyte]
  exact congrArg (fun z : EReal => z * _) (codes_at X hX r k)

end Cert.Equal

namespace Cert.Equal

open Cert.KernelIdeal Cert.KernelIdeal.Gen Cert.KernelIdeal.Hand Cert.Power
open Idealize.ShloMosaic Idealize.ShloMosaic.TcCoe Idealize.ShloMosaic.Tactic

/-- The precondition bounds the rows of the reshaped activations. -/
theorem bounded (x : Vec Ideal S4x384x2816 .bf16) (w : Vec Ideal S2816x4096 .fp8e4m3) (s : Vec Ideal S88x4096 .i8)
    (h : Cert.Pre_finite.fn (F := Ideal) x w s = fun _ => 1#1) :
    Bounded (shapeCast S1536x2816 x shapeCasts_S4x384x2816_S1536x2816) :=
  fun r => rowV_bound _ fun k => finite_le x w s h _

end Cert.Equal

end
-- ==== Proof.KernelFrame.lean ====
/-
  The frame of the kernel at any float instance: the run of the body with what it stores in the outputs and the scratch
  left unsaid; and that the program read at words is the same program, so has the same frame.
-/
module

public import proofs.«01_k».proof.Proof.RunB
public import proofs.«01_k».proof.Proof.Gen.Kernel
public import Idealize.ShloMosaic.Lib.Claim
public import Idealize.ShloMosaic.Lib.Pipeline.TableIdle

@[expose] public section

set_option maxRecDepth 16384

noncomputable section

namespace Cert.KernelIdeal.Safe

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output windows, of whose contents nothing is said. -/
def fgt : Fin cfg0.W → Bool := fun w => match w with
  | ⟨0, _⟩ => false
  | ⟨1, _⟩ => false
  | ⟨2, _⟩ => false
  | ⟨3, _⟩ => true
  | ⟨4, _⟩ => true
  | ⟨5, _⟩ => true

/-- The inputs' buffers hold their blocks; the outputs' anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => fun _ => Classical.arbitrary _
    | ⟨4, _⟩ => fun _ => Classical.arbitrary _
    | ⟨5, _⟩ => fun _ => Classical.arbitrary _
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ X, owns (c : Thread nD τ) (ms0_3 t) fullShare X)
    ∗ (∃ X, owns (c : Thread nD τ) (ms0_4 t) fullShare X)
    ∗ (∃ X, owns (c : Thread nD τ) (ms0_5 t) fullShare X))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (∃ X, owns (c : Thread nD τ) (ms0_3 t) fullShare X)
    ∗ (∃ X, owns (c : Thread nD τ) (ms0_4 t) fullShare X)
    ∗ (∃ X, owns (c : Thread nD τ) (ms0_5 t) fullShare X))

set_option maxHeartbeats 6400000 in
/-- The body at any point turns the one into the other. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).Φ t.castSucc = Pipeline.ΦA spec0 c from rfl, show (dats m 0 c).Φ t.succ = Pipeline.ΦA spec0 c from rfl, PhiA0_eq]
  by_cases h0 : cond0_0 (grid0.coords t)
  · iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ _ _ _ _ _ _ h0 (iblk m c 0 t) (iblk m c 1 t) (iblk m c 2 t)).2.2.2.2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    isplitl [HS2]; · iexact HS2
    iintro ⟨H0, H1, H2, ⟨%e3, H3⟩, ⟨%e4, H4⟩, ⟨%e5, H5⟩, ⟨%es0, HS0⟩, ⟨%fT1, HS1⟩, ⟨%es2, HS2⟩⟩
    isplitl [HS0 HS1 HS2 Hg]
    · isplitl [HS0 HS1 HS2]
      · isplitl [HS0]
        · iexists _; unfold owns; iexists _; isplitr
          swap; · iexact HS0
          ipureintro; rfl
        isplitl [HS1]
        · iexists _; unfold owns; iexists _; isplitr
          swap; · iexact HS1
          ipureintro; rfl
        iexists _; unfold owns; iexists _; isplitr
        swap; · iexact HS2
        ipureintro; rfl
      iexact Hg
    isplitl [Ho]; · iexact Ho
    isplitl [H0]; · iexact H0
    isplitl [H1]; · iexact H1
    isplitl [H2]; · iexact H2
    isplitl [H3]
    · iexists _; unfold owns; iexists _; isplitr
      swap; · iexact H3
      ipureintro; rfl
    isplitl [H4]
    · iexists _; unfold owns; iexists _; isplitr
      swap; · iexact H4
      ipureintro; rfl
    iexists _; unfold owns; iexists _; isplitr
    swap; · iexact H5
    ipureintro; rfl
  · iintro ⟨⟨⟨⟨%s0, HS0⟩, HS1, ⟨%s2, HS2⟩⟩, Hg⟩, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ _ _ _ _ _ _ h0 (iblk m c 0 t) (iblk m c 1 t) (iblk m c 2 t) d4 d5 s0 s2).2.2 Set.univ _)
    isplitl [H0]; · iexact H0
    isplitl [H1]; · iexact H1
    isplitl [H2]; · iexact H2
    isplitl [H3]; · iexists _; iexact H3
    isplitl [H4]; · iexact H4
    isplitl [H5]; · iexact H5
    isplitl [HS0]; · iexact HS0
    isplitl [HS1]; · iexact HS1
    isplitl [HS2]; · iexact HS2
    iintro ⟨H0, H1, H2, ⟨%e3, H3⟩, H4, H5, HS0, ⟨%fT1, HS1⟩, HS2⟩
    isplitl [HS0 HS1 HS2 Hg]
    · isplitl [HS0 HS1 HS2]
      · isplitl [HS0]
        · iexists _; iexact HS0
        isplitl [HS1]
        · iexists _; unfold owns; iexists _; isplitr
          swap; · iexact HS1
          ipureintro; rfl
        iexists _; iexact HS2
      iexact Hg
    isplitl [Ho]; · iexact Ho
    isplitl [H0]; · iexact H0
    isplitl [H1]; · iexact H1
    isplitl [H2]; · iexact H2
    isplitl [H3]
    · iexists _; unfold owns; iexists _; isplitr
      swap; · iexact H3
      ipureintro; rfl
    isplitl [H4]
    · iexists _; iexact H4
    iexists _; iexact H5

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
/-- The whole program terminates with its arguments as it found them and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Pipeline.θ_run_frame_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m) (hΦ := fun _ _ => rfl)
    (hQ' := fun r h => ⟨fun c => ⟨((h.1 c).2 main_arg0 (Pipeline.mem_restRefs_of main_arg0 (by decide) (by decide))).trans (V_main_arg0 m c),
      (Pipeline.RDat.FramePost.arr_in h.1 c 1 rfl).trans ((A_eq m c 1).trans (V_main_arg1 m c)),
      (Pipeline.RDat.FramePost.arr_in h.1 c 2 rfl).trans ((A_eq m c 2).trans (V_main_arg2 m c))⟩, h.2⟩)

/-! ## The program read at words -/

/-- The two printed programs have the same kernel bodies, -/
theorem defs₀_eq : Cert.Kernel.defs₀ (F := F) = Cert.KernelIdeal.defs₀ (F := F) := by
  unfold Cert.Kernel.defs₀ Cert.KernelIdeal.defs₀
  refine congrArg (fun b => Defs.onTc b) ?_
  funext l x
  match l, x with
  | 0, (t, s) => rfl

/-- the same table of them, -/
theorem defs_eq : Cert.Kernel.defs (F := F) = Cert.KernelIdeal.defs (F := F) := by
  unfold Cert.Kernel.defs Cert.KernelIdeal.defs
  rw [defs₀_eq]
  rfl

/-- and the same host program. -/
theorem main_eq : Cert.Kernel.main (F := F) = Cert.KernelIdeal.main (F := F) := rfl

/-- So the printed kernel has the frame of the idealized one's text. -/
theorem frame_kernel (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0) := by
  rw [defs_eq, main_eq]
  exact frame m ρ

end Cert.KernelIdeal.Safe

end
-- ==== Proof.lean ====
/-
  The proof of `Cert.Claim`: the frames of the kernel, of its idealized program and of the reference; and that the
  kernel and the reference leave the same three arrays where every activation is a finite bf16 number.
-/
module

public import proofs.«01_k».proof.Defs
public import proofs.«01_k».proof.Proof.Equal
public import proofs.«01_k».proof.Proof.KernelFrame
public import Idealize.ShloMosaic.Adequacy
public import Idealize.ShloMosaic.Init

@[expose] public section

noncomputable section

namespace Cert.Proof

open Idealize.ShloMosaic Idealize.ShloMosaic.TcCoe Idealize.SL.Sem

/-- The kernel's run: its three arrays as functions of its arguments. -/
theorem kernel_run (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v1_0)
          = Cert.KernelIdeal.Hand.ySpec (Cert.KernelIdeal.Hand.xOf m c)
              (m ((c.tc : Thread Cert.KernelIdeal.nD Cert.KernelIdeal.τ).loc Cert.KernelIdeal.main_arg1))
              (m ((c.tc : Thread Cert.KernelIdeal.nD Cert.KernelIdeal.τ).loc Cert.KernelIdeal.main_arg2))
      ∧ r.2.mem ((c.tc : Thread Cert.KernelIdeal.nD Cert.KernelIdeal.τ).loc Cert.KernelIdeal.main_v1_1)
          = Cert.KernelIdeal.Hand.codesOf (Cert.KernelIdeal.Hand.xOf m c)
      ∧ r.2.mem ((c.tc : Thread Cert.KernelIdeal.nD Cert.KernelIdeal.τ).loc Cert.KernelIdeal.main_v1_2)
          = Cert.KernelIdeal.Hand.xsOf (Cert.KernelIdeal.Hand.xOf m c)) :=
  (θ_run Cert.KernelIdeal.defs _ _).mono (fun r h c =>
    ⟨((h c).1 3).trans ((Cert.KernelIdeal.Hand.final_3 m c).trans (by
        rw [Cert.KernelIdeal.Gen.V_main_arg1, Cert.KernelIdeal.Gen.V_main_arg2])),
      ((h c).1 4).trans (Cert.KernelIdeal.Hand.final_4 m c), ((h c).1 5).trans (Cert.KernelIdeal.Hand.final_5 m c)⟩)
    (Cert.KernelIdeal.Hand.run_main m g)

/-- The reference's run: its three arrays as functions of its arguments. -/
theorem reference_run (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v1_0)
          = Cert.ReferenceIdeal.Hand.rY (Cert.ReferenceIdeal.Hand.rX m c)
              (m ((c.tc : Thread Cert.ReferenceIdeal.nD Cert.ReferenceIdeal.τ).loc Cert.ReferenceIdeal.main_arg1))
              (m ((c.tc : Thread Cert.ReferenceIdeal.nD Cert.ReferenceIdeal.τ).loc Cert.ReferenceIdeal.main_arg2))
      ∧ r.2.mem ((c.tc : Thread Cert.ReferenceIdeal.nD Cert.ReferenceIdeal.τ).loc Cert.ReferenceIdeal.main_v1_1)
          = Cert.ReferenceIdeal.Hand.rCodes (Cert.ReferenceIdeal.Hand.rX m c)
      ∧ r.2.mem ((c.tc : Thread Cert.ReferenceIdeal.nD Cert.ReferenceIdeal.τ).loc Cert.ReferenceIdeal.main_v1_2)
          = Cert.ReferenceIdeal.Hand.rScales (Cert.ReferenceIdeal.Hand.rX m c)) :=
  (θ_run Cert.ReferenceIdeal.defs _ _).mono (fun r h c =>
    ⟨((h c).1 3).trans (Cert.ReferenceIdeal.Hand.final_3 m c),
      ((h c).1 4).trans (Cert.ReferenceIdeal.Hand.final_4 m c), ((h c).1 5).trans (Cert.ReferenceIdeal.Hand.final_5 m c)⟩)
    (Cert.ReferenceIdeal.Gen.run_main m g)

/-- From memories that agree on the arguments, the activations finite, the two programs leave the same three arrays. -/
theorem algebraic : Cert.algebraic_KernelIdeal_ReferenceIdeal_pre_finite := by
  intro m g m' g' hpre hargs
  have hb : ∀ c, Cert.Equal.Bounded (Cert.KernelIdeal.Hand.xOf m c) := fun c => by
    rw [Cert.KernelIdeal.Hand.xOf_eq]
    exact Cert.Equal.bounded _ _ _ (hpre c)
  have hx : ∀ c, Cert.ReferenceIdeal.Hand.rX m' c = Cert.KernelIdeal.Hand.xOf m c := fun c => by
    rw [Cert.KernelIdeal.Hand.xOf_eq]
    unfold Cert.ReferenceIdeal.Hand.rX
    rw [(hargs c).1]
  refine ⟨_, _, _, (θ_run Cert.KernelIdeal.defs _ _).mono (fun r h c => ⟨(h.1 c).1, (h.1 c).2.1, (h.1 c).2.2, h.2.1 c⟩)
      (θ_run_and (kernel_run m g) (Cert.KernelIdeal.Hand.frame m g)),
    (θ_run Cert.ReferenceIdeal.defs _ _).mono (fun r h c => ⟨(h.1 c).1.trans ?_, (h.1 c).2.1.trans ?_, (h.1 c).2.2.trans ?_, h.2.1 c⟩)
      (θ_run_and (reference_run m' g') (Cert.ReferenceIdeal.Gen.frame m' g'))⟩
  · rw [hx, (hargs c).2.1, (hargs c).2.2]
    exact Cert.Equal.y_eq _ (hb c) _ _
  · rw [hx]
    exact Cert.Equal.codes_eq _ (hb c)
  · rw [hx]
    exact Cert.Equal.scales_eq _ (hb c)

/-- Every claim of the certificate. -/
theorem claim : Cert.Claim :=
  ⟨Cert.Kernel.Gen.facts, Cert.KernelIdeal.Gen.facts, Cert.ReferenceIdeal.Gen.facts, Cert.Pre_finite.Gen.facts,
    fun m g _ => Cert.KernelIdeal.Safe.frame_kernel m g,
    fun m g _ => Cert.KernelIdeal.Hand.frame m g,
    fun m g _ => Cert.KernelIdeal.Hand.frame m g,
    fun m g _ => Cert.ReferenceIdeal.Gen.frame m g,
    fun m g _ => Cert.ReferenceIdeal.Gen.frame m g,
    trivial,
    algebraic⟩

end Cert.Proof

end
